-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Moba (m : (ℓ : Loc Cert.Moba.nD Cert.Moba.τ Cert.Moba.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)) →
    ∃ (v0 : (c : Dev Cert.HeadsIdeal.nD) → Buf (Elt Ideal) ((c.tc : Thread Cert.HeadsIdeal.nD Cert.HeadsIdeal.τ).loc Cert.HeadsIdeal.main_v13)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v13) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v44) = v0 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v24) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v27_0)) (v1 : (c : Dev Cert.MixIdeal.nD) → Buf (Elt Ideal) ((c.tc : Thread Cert.MixIdeal.nD Cert.MixIdeal.τ).loc Cert.MixIdeal.main_v27_1)) (v2 : (c : Dev Cert.MixIdeal.nD) → Buf (Elt Ideal) ((c.tc : Thread Cert.MixIdeal.nD Cert.MixIdeal.τ).loc Cert.MixIdeal.main_v27_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v27_0) = v0 c
          ∧ r.2.mem ((c.tc : Thread Cert.MixIdeal.nD Cert.MixIdeal.τ).loc Cert.MixIdeal.main_v27_1) = v1 c
          ∧ r.2.mem ((c.tc : Thread Cert.MixIdeal.nD Cert.MixIdeal.τ).loc Cert.MixIdeal.main_v27_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v30) = v0 c
          ∧ r.2.mem ((c.tc : Thread Cert.MixReferenceIdeal.nD Cert.MixReferenceIdeal.τ).loc Cert.MixReferenceIdeal.main_v32) = v1 c
          ∧ r.2.mem ((c.tc : Thread Cert.MixReferenceIdeal.nD Cert.MixReferenceIdeal.τ).loc Cert.MixReferenceIdeal.main_v35) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def Claim : Prop :=
  ∃ (hKernel : Cert.Kernel.Facts) (hKernelIdeal : Cert.KernelIdeal.Facts) (hReferenceIdeal : Cert.ReferenceIdeal.Facts) (hHeads : Cert.Heads.Facts) (hHeadsIdeal : Cert.HeadsIdeal.Facts) (hHeadsReferenceIdeal : Cert.HeadsReferenceIdeal.Facts) (hGates : Cert.Gates.Facts) (hGatesIdeal : Cert.GatesIdeal.Facts) (hGatesReferenceIdeal : Cert.GatesReferenceIdeal.Facts) (hMix : Cert.Mix.Facts) (hMixIdeal : Cert.MixIdeal.Facts) (hMixReferenceIdeal : Cert.MixReferenceIdeal.Facts) (hMoba : Cert.Moba.Facts),
    quiescent_Kernel (hKernel := hKernel)
    ∧ quiescent_KernelIdeal (hKernelIdeal := hKernelIdeal)
    ∧ quiescent_ReferenceIdeal (hReferenceIdeal := hReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Mix (hMix := hMix)
    ∧ quiescent_MixIdeal (hMixIdeal := hMixIdeal)
    ∧ quiescent_MixReferenceIdeal (hMixReferenceIdeal := hMixReferenceIdeal)
    ∧ quiescent_Moba (hMoba := hMoba)
    ∧ preserves_Kernel_KernelIdeal
    ∧ algebraic_KernelIdeal_ReferenceIdeal (hKernelIdeal := hKernelIdeal) (hReferenceIdeal := hReferenceIdeal)
    ∧ preserves_Heads_HeadsIdeal
    ∧ algebraic_HeadsIdeal_HeadsReferenceIdeal (hHeadsIdeal := hHeadsIdeal) (hHeadsReferenceIdeal := hHeadsReferenceIdeal)
    ∧ preserves_Gates_GatesIdeal
    ∧ algebraic_GatesIdeal_GatesReferenceIdeal (hGatesIdeal := hGatesIdeal) (hGatesReferenceIdeal := hGatesReferenceIdeal)
    ∧ preserves_Mix_MixIdeal
    ∧ algebraic_MixIdeal_MixReferenceIdeal (hMixIdeal := hMixIdeal) (hMixReferenceIdeal := hMixReferenceIdeal)
-- ==== Kernel.lean ====
abbrev S2x8x8192x64 : Shape := ⟨4, ![2, 8, 8192, 64]⟩
abbrev S_ : Shape := ⟨0, ![]⟩
abbrev S256x256 : Shape := ⟨2, ![256, 256]⟩
abbrev S24x16384x128 : Shape := ⟨3, ![24, 16384, 128]⟩
abbrev S8x2x8192x64 : Shape := ⟨4, ![8, 2, 8192, 64]⟩
abbrev S8x16384x64 : Shape := ⟨3, ![8, 16384, 64]⟩
abbrev S8x16384x128 : Shape := ⟨3, ![8, 16384, 128]⟩
abbrev S48x16384x128 : Shape := ⟨3, ![48, 16384, 128]⟩
abbrev S8x256x128 : Shape := ⟨3, ![8, 256, 128]⟩
abbrev S8x8192x128 : Shape := ⟨3, ![8, 8192, 128]⟩
abbrev S256x1 : Shape := ⟨2, ![256, 1]⟩
abbrev S256x128 : Shape := ⟨2, ![256, 128]⟩
abbrev S1x256x128 : Shape := ⟨3, ![1, 256, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 44
  | .vmem => 7
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S2x8x8192x64, .f32⟩
  | .hbm, ⟨3, _⟩ => ⟨S_, .f32⟩
  | .hbm, ⟨4, _⟩ => ⟨S256x256, .f32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S_, .bf16⟩
  | .hbm, ⟨16, _⟩ => ⟨S24x16384x128, .bf16⟩
  | .hbm, ⟨17, _⟩ => ⟨S_, .f32⟩
  | .hbm, ⟨18, _⟩ => ⟨S2x8x8192x64, .f32⟩
  | .hbm, ⟨19, _⟩ => ⟨S2x8x8192x64, .f32⟩
  | .hbm, ⟨20, _⟩ => ⟨S8x2x8192x64, .f32⟩
  | .hbm, ⟨21, _⟩ => ⟨S8x16384x64, .f32⟩
  | .hbm, ⟨22, _⟩ => ⟨S_, .i32⟩
  | .hbm, ⟨23, _⟩ => ⟨S_, .f32⟩
  | .hbm, ⟨24, _⟩ => ⟨S8x16384x128, .f32⟩
  | .hbm, ⟨25, _⟩ => ⟨S8x16384x128, .bf16⟩
  | .hbm, ⟨26, _⟩ => ⟨S8x2x8192x64, .f32⟩
  | .hbm, ⟨27, _⟩ => ⟨S8x16384x64, .f32⟩
  | .hbm, ⟨28, _⟩ => ⟨S_, .i32⟩
  | .hbm, ⟨29, _⟩ => ⟨S_, .f32⟩
  | .hbm, ⟨30, _⟩ => ⟨S8x16384x128, .f32⟩
  | .hbm, ⟨31, _⟩ => ⟨S8x16384x128, .bf16⟩
  | .hbm, ⟨32, _⟩ => ⟨S8x2x8192x64, .f32⟩
  | .hbm, ⟨33, _⟩ => ⟨S8x16384x64, .f32⟩
  | .hbm, ⟨34, _⟩ => ⟨S_, .i32⟩
  | .hbm, ⟨35, _⟩ => ⟨S_, .f32⟩
  | .hbm, ⟨36, _⟩ => ⟨S8x16384x128, .f32⟩
  | .hbm, ⟨37, _⟩ => ⟨S8x16384x128, .bf16⟩
  | .hbm, ⟨38, _⟩ => ⟨S48x16384x128, .bf16⟩
  | .hbm, ⟨39, _⟩ => ⟨S8x16384x128, .bf16⟩
  | .hbm, ⟨40, _⟩ => ⟨S8x16384x64, .bf16⟩
  | .hbm, ⟨41, _⟩ => ⟨S8x2x8192x64, .bf16⟩
  | .hbm, ⟨42, _⟩ => ⟨S2x8x8192x64, .bf16⟩
  | .hbm, ⟨43, _⟩ => ⟨S2x8x8192x64, .f32⟩
  | .local _ .vmem, ⟨0, _⟩ => ⟨S8x256x128, .bf16⟩
  | .local _ .vmem, ⟨1, _⟩ => ⟨S8x256x128, .bf16⟩
  | .local _ .vmem, ⟨2, _⟩ => ⟨S8x8192x128, .bf16⟩
  | .local _ .vmem, ⟨3, _⟩ => ⟨S8x8192x128, .bf16⟩
  | .local _ .vmem, ⟨4, _⟩ => ⟨S256x256, .bf16⟩
  | .local _ .vmem, ⟨5, _⟩ => ⟨S8x256x128, .bf16⟩
  | .local _ .vmem, ⟨6, _⟩ => ⟨S8x256x128, .bf16⟩
  | _, _ => ⟨S2x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call2_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_call3_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 3 → Nat :=
  let c0_6 : Index := 0#32
  let arg1 : BitVec 32 := BitVec.ofNat 32 (i 1).val
  let c256_i32 : BitVec 32 := 256#32
  let v5 : BitVec 32 := Scalar.muli arg1 c256_i32
  let v6 : BitVec 32 := v5
  let v9 : Index := Scalar.indexCast v6
  let c0_7 : Index := 0#32
  ![0, v9.toNat, 0]
def k0_off2 (i : grid0.Coords) : Fin 3 → Nat :=
  let c1_11 : Index := 1#32
  let arg1 : BitVec 32 := BitVec.ofNat 32 (i 1).val
  let c256_i32 : BitVec 32 := 256#32
  let v5 : BitVec 32 := Scalar.muli arg1 c256_i32
  let v6 : BitVec 32 := v5
  let v15 : Index := Scalar.indexCast v6
  let c0_12 : Index := 0#32
  ![1, v15.toNat, 0]
def k0_off3 (i : grid0.Coords) : Fin 3 → Nat :=
  let c2_16 : Index := 2#32
  let arg1 : BitVec 32 := BitVec.ofNat 32 (i 1).val
  let c256_i32 : BitVec 32 := 256#32
  let v5 : BitVec 32 := Scalar.muli arg1 c256_i32
  let v6 : BitVec 32 := v5
  let v21 : Index := Scalar.indexCast v6
  let c0_17 : Index := 0#32
  ![2, v21.toNat, 0]
def k0_off4 (i : grid0.Coords) : Fin 3 → Nat :=
  let c3_21 : Index := 3#32
  let arg1 : BitVec 32 := BitVec.ofNat 32 (i 1).val
  let c256_i32 : BitVec 32 := 256#32
  let v5 : BitVec 32 := Scalar.muli arg1 c256_i32
  let v6 : BitVec 32 := v5
  let v27 : Index := Scalar.indexCast v6
  let c0_22 : Index := 0#32
  ![3, v27.toNat, 0]
def k0_off5 (i : grid0.Coords) : Fin 3 → Nat :=
  let c4_26 : Index := 4#32
  let arg1 : BitVec 32 := BitVec.ofNat 32 (i 1).val
  let c256_i32 : BitVec 32 := 256#32
  let v5 : BitVec 32 := Scalar.muli arg1 c256_i32
  let v6 : BitVec 32 := v5
  let v33 : Index := Scalar.indexCast v6
  let c0_27 : Index := 0#32
  ![4, v33.toNat, 0]
def k0_off6 (i : grid0.Coords) : Fin 3 → Nat :=
  let c5_31 : Index := 5#32
  let arg1 : BitVec 32 := BitVec.ofNat 32 (i 1).val
  let c256_i32 : BitVec 32 := 256#32
  let v5 : BitVec 32 := Scalar.muli arg1 c256_i32
  let v6 : BitVec 32 := v5
  let v39 : Index := Scalar.indexCast v6
  let c0_32 : Index := 0#32
  ![5, v39.toNat, 0]
def k0_off7 (i : grid0.Coords) : Fin 3 → Nat :=
  let c6_36 : Index := 6#32
  let arg1 : BitVec 32 := BitVec.ofNat 32 (i 1).val
  let c256_i32 : BitVec 32 := 256#32
  let v5 : BitVec 32 := Scalar.muli arg1 c256_i32
  let v6 : BitVec 32 := v5
  let v45 : Index := Scalar.indexCast v6
  let c0_37 : Index := 0#32
  ![6, v45.toNat, 0]
def k0_off8 (i : grid0.Coords) : Fin 3 → Nat :=
  let c7_41 : Index := 7#32
  let arg1 : BitVec 32 := BitVec.ofNat 32 (i 1).val
  let c256_i32 : BitVec 32 := 256#32
  let v5 : BitVec 32 := Scalar.muli arg1 c256_i32
  let v6 : BitVec 32 := v5
  let v51 : Index := Scalar.indexCast v6
  let c0_42 : Index := 0#32
  ![7, v51.toNat, 0]
def k0_mult2 (i : grid0.Coords) (arg7 : BitVec 32) : BitVec 32 :=
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  v421

def k0_off9 (i : grid0.Coords) (arg7 : BitVec 32) : Fin 3 → Nat :=
  let c0_169 : Index := 0#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v425 : Index := Scalar.indexCast v422
  let c0_170 : Index := 0#32
  ![0, v425.toNat, 0]
def k0_off10 (i : grid0.Coords) (arg7 : BitVec 32) : Fin 3 → Nat :=
  let c1_175 : Index := 1#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v431 : Index := Scalar.indexCast v422
  let c0_176 : Index := 0#32
  ![1, v431.toNat, 0]
def k0_off11 (i : grid0.Coords) (arg7 : BitVec 32) : Fin 3 → Nat :=
  let c2_181 : Index := 2#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v437 : Index := Scalar.indexCast v422
  let c0_182 : Index := 0#32
  ![2, v437.toNat, 0]
def k0_off12 (i : grid0.Coords) (arg7 : BitVec 32) : Fin 3 → Nat :=
  let c3_187 : Index := 3#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v443 : Index := Scalar.indexCast v422
  let c0_188 : Index := 0#32
  ![3, v443.toNat, 0]
def k0_off13 (i : grid0.Coords) (arg7 : BitVec 32) : Fin 3 → Nat :=
  let c4_193 : Index := 4#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v449 : Index := Scalar.indexCast v422
  let c0_194 : Index := 0#32
  ![4, v449.toNat, 0]
def k0_off14 (i : grid0.Coords) (arg7 : BitVec 32) : Fin 3 → Nat :=
  let c5_199 : Index := 5#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v455 : Index := Scalar.indexCast v422
  let c0_200 : Index := 0#32
  ![5, v455.toNat, 0]
def k0_off15 (i : grid0.Coords) (arg7 : BitVec 32) : Fin 3 → Nat :=
  let c6_205 : Index := 6#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v461 : Index := Scalar.indexCast v422
  let c0_206 : Index := 0#32
  ![6, v461.toNat, 0]
def k0_off16 (i : grid0.Coords) (arg7 : BitVec 32) : Fin 3 → Nat :=
  let c7_211 : Index := 7#32
  let arg1 : BitVec 32 := BitVec.ofNat 32 (i 1).val
  let c1_i32 : BitVec 32 := 1#32
  let v419 : BitVec 32 := Scalar.subi arg1 c1_i32
  let v420 : BitVec 32 := Scalar.subi v419 arg7
  let c256_i32_165 : BitVec 32 := 256#32
  let v421 : BitVec 32 := Scalar.muli v420 c256_i32_165
  let v422 : BitVec 32 := v421
  let v467 : Index := Scalar.indexCast v422
  let c0_212 : Index := 0#32
  ![7, v467.toNat, 0]

def k0_chk1 (i : grid0.Coords) (arg7 : BitVec 32) : Prop :=
  (256 ∣ (k0_mult2 i arg7).toNat) ∧
  (∀ a, (k0_off9 i arg7) a + S1x256x128.size a ≤ S8x8192x128.size a) ∧
  (∀ a, (k0_off10 i arg7) a + S1x256x128.size a ≤ S8x8192x128.size a) ∧
  (∀ a, (k0_off11 i arg7) a + S1x256x128.size a ≤ S8x8192x128.size a) ∧
  (∀ a, (k0_off12 i arg7) a + S1x256x128.size a ≤ S8x8192x128.size a) ∧
  (∀ a, (k0_off13 i arg7) a + S1x256x128.size a ≤ S8x8192x128.size a) ∧
  (∀ a, (k0_off14 i arg7) a + S1x256x128.size a ≤ S8x8192x128.size a) ∧
  (∀ a, (k0_off15 i arg7) a + S1x256x128.size a ≤ S8x8192x128.size a) ∧
  (∀ a, (k0_off16 i arg7) a + S1x256x128.size a ≤ S8x8192x128.size a)
theorem k0_mult2_dvd : ∀ (i : grid0.Coords) (arg7 : BitVec 32) (k0_hw1 : k0_chk1 i arg7), 256 ∣ (k0_mult2 i arg7).toNat := fun i arg7 k0_hw1 => k0_hw1.1
theorem k0_off9_inb : ∀ (i : grid0.Coords) (arg7 : BitVec 32) (k0_hw1 : k0_chk1 i arg7), ∀ a, (k0_off9 i arg7) a + S1x256x128.size a ≤ S8x8192x128.size a := fun i arg7 k0_hw1 => k0_hw1.2.1
theorem k0_off10_inb : ∀ (i : grid0.Coords) (arg7 : BitVec 32) (k0_hw1 : k0_chk1 i arg7), ∀ a, (k0_off10 i arg7) a + S1x256x128.size a ≤ S8x8192x128.size a := fun i arg7 k0_hw1 => k0_hw1.2.2.1
theorem k0_off11_inb : ∀ (i : grid0.Coords) (arg7 : BitVec 32) (k0_hw1 : k0_chk1 i arg7), ∀ a, (k0_off11 i arg7) a + S1x256x128.size a ≤ S8x8192x128.size a := fun i arg7 k0_hw1 => k0_hw1.2.2.2.1
theorem k0_off12_inb : ∀ (i : grid0.Coords) (arg7 : BitVec 32) (k0_hw1 : k0_chk1 i arg7), ∀ a, (k0_off12 i arg7) a + S1x256x128.size a ≤ S8x8192x128.size a := fun i arg7 k0_hw1 => k0_hw1.2.2.2.2.1
theorem k0_off13_inb : ∀ (i : grid0.Coords) (arg7 : BitVec 32) (k0_hw1 : k0_chk1 i arg7), ∀ a, (k0_off13 i arg7) a + S1x256x128.size a ≤ S8x8192x128.size a := fun i arg7 k0_hw1 => k0_hw1.2.2.2.2.2.1
theorem k0_off14_inb : ∀ (i : grid0.Coords) (arg7 : BitVec 32) (k0_hw1 : k0_chk1 i arg7), ∀ a, (k0_off14 i arg7) a + S1x256x128.size a ≤ S8x8192x128.size a := fun i arg7 k0_hw1 => k0_hw1.2.2.2.2.2.2.1
theorem k0_off15_inb : ∀ (i : grid0.Coords) (arg7 : BitVec 32) (k0_hw1 : k0_chk1 i arg7), ∀ a, (k0_off15 i arg7) a + S1x256x128.size a ≤ S8x8192x128.size a := fun i arg7 k0_hw1 => k0_hw1.2.2.2.2.2.2.2.1
theorem k0_off16_inb : ∀ (i : grid0.Coords) (arg7 : BitVec 32) (k0_hw1 : k0_chk1 i arg7), ∀ a, (k0_off16 i arg7) a + S1x256x128.size a ≤ S8x8192x128.size a := fun i arg7 k0_hw1 => k0_hw1.2.2.2.2.2.2.2.2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c3_i32 : BitVec 32 := 3#32
  let v10 : BitVec 32 := Scalar.addi c3_i32 v9
  let c1_i32_4 : BitVec 32 := 1#32
  let v11 : BitVec 32 := Scalar.divsi arg0 c1_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg0 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c32_i32 : BitVec 32 := 32#32
  let v28 : BitVec 32 := Scalar.muli v27 c32_i32
  let v29 : BitVec 32 := Scalar.addi v28 arg1
  let c0_i32_11 : BitVec 32 := 0#32
  let c0_i32_12 : BitVec 32 := 0#32
  ![v10.toNat, v29.toNat, c0_i32_11.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.addi c4_i32 v9
  let c1_i32_4 : BitVec 32 := 1#32
  let v11 : BitVec 32 := Scalar.divsi arg0 c1_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg0 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c0_i32_11 : BitVec 32 := 0#32
  let c0_i32_12 : BitVec 32 := 0#32
  ![v10.toNat, v27.toNat, c0_i32_11.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c5_i32 : BitVec 32 := 5#32
  let v10 : BitVec 32 := Scalar.addi c5_i32 v9
  let c1_i32_4 : BitVec 32 := 1#32
  let v11 : BitVec 32 := Scalar.divsi arg0 c1_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg0 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c0_i32_11 : BitVec 32 := 0#32
  let c0_i32_12 : BitVec 32 := 0#32
  ![v10.toNat, v27.toNat, c0_i32_11.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c32_i32 : BitVec 32 := 32#32
  let v27 : BitVec 32 := Scalar.muli v26 c32_i32
  let v28 : BitVec 32 := Scalar.addi v27 arg1
  let c0_i32_11 : BitVec 32 := 0#32
  let c0_i32_12 : BitVec 32 := 0#32
  ![v9.toNat, v28.toNat, c0_i32_11.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8x8192x64 : Shape := ⟨4, ![2, 8, 8192, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 63
  | .vmem => 0
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S2x8x8192x64, .f32⟩
  | .hbm, ⟨3, _⟩ => ⟨S2x8x8192x8192, .f32⟩
  | .hbm, ⟨4, _⟩ => ⟨S_, .f32⟩
  | .hbm, ⟨5, _⟩ => ⟨S2x8x8192x8192, .f32⟩
  | .hbm, ⟨6, _⟩ => ⟨S2x8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S2x8x8192x8192, .f32⟩
  | .hbm, ⟨14, _⟩ => ⟨S2x8x8192x8192, .f32⟩
  | .hbm, ⟨15, _⟩ => ⟨S_, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S2x8x8192x8192, .i1⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S_, .f32⟩
  | .hbm, ⟨32, _⟩ => ⟨S2x8x8192x8192, .i1⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S_, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .i1⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S_, .f32⟩
  | .hbm, ⟨59, _⟩ => ⟨S2x8x8192x8192, .i1⟩
  | .hbm, ⟨60, _⟩ => ⟨S2x8x8192x8192, .f32⟩
  | .hbm, ⟨61, _⟩ => ⟨S2x8x8192x8192, .f32⟩
  | .hbm, ⟨62, _⟩ => ⟨S2x8x8192x64, .f32⟩
  | _, _ => ⟨S2x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩

abbrev nD : Nat := 1
abbrev τ : Topo := Topo.v7x

variable {F : FTy → Type} [FloatOps F]
-- ==== Heads.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024x5120 : Shape := ⟨2, ![1024, 5120]⟩
abbrev S1024x3072 : Shape := ⟨2, ![1024, 3072]⟩
abbrev S1024x48x64 : Shape := ⟨3, ![1024, 48, 64]⟩
abbrev S_ : Shape := ⟨0, ![]⟩
abbrev S1024x48x128 : Shape := ⟨3, ![1024, 48, 128]⟩
abbrev S1024x6144 : Shape := ⟨2, ![1024, 6144]⟩
abbrev S16384x1024 : Shape := ⟨2, ![16384, 1024]⟩
abbrev S1024 : Shape := ⟨1, ![1024]⟩
abbrev S48x16384x128 : Shape := ⟨3, ![48, 16384, 128]⟩
abbrev S1024x1024 : Shape := ⟨2, ![1024, 1024]⟩
abbrev S8x1024x128 : Shape := ⟨3, ![8, 1024, 128]⟩
abbrev S1024x1 : Shape := ⟨2, ![1024, 1]⟩
abbrev S1024x128 : Shape := ⟨2, ![1024, 128]⟩
abbrev S1x1024x128 : Shape := ⟨3, ![1, 1024, 128]⟩
abbrev S48x16384x64 : Shape := ⟨3, ![48, 16384, 64]⟩
abbrev S6x8x2x8192x64 : Shape := ⟨5, ![6, 8, 2, 8192, 64]⟩
abbrev S6x2x8x8192x64 : Shape := ⟨5, ![6, 2, 8, 8192, 64]⟩

abbrev nBuf : Space → Nat
  | .hbm => 19
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024x5120, .f32⟩
  | .hbm, ⟨4, _⟩ => ⟨S1024x3072, .f32⟩
  | .hbm, ⟨5, _⟩ => ⟨S1024x48x64, .f32⟩
  | .hbm, ⟨6, _⟩ => ⟨S_, .i32⟩
  | .hbm, ⟨7, _⟩ => ⟨S_, .f32⟩
  | .hbm, ⟨8, _⟩ => ⟨S1024x48x128, .f32⟩
  | .hbm, ⟨9, _⟩ => ⟨S1024x6144, .f32⟩
  | .hbm, ⟨10, _⟩ => ⟨S1024x6144, .bf16⟩
  | .hbm, ⟨11, _⟩ => ⟨S16384x1024, .f32⟩
  | .hbm, ⟨12, _⟩ => ⟨S1024, .f32⟩
  | .hbm, ⟨13, _⟩ => ⟨S1x1024, .f32⟩
  | .hbm, ⟨14, _⟩ => ⟨S48x16384x128, .bf16⟩
  | .hbm, ⟨15, _⟩ => ⟨S48x16384x64, .bf16⟩
  | .hbm, ⟨16, _⟩ => ⟨S6x8x2x8192x64, .bf16⟩
  | .hbm, ⟨17, _⟩ => ⟨S6x2x8x8192x64, .bf16⟩
  | .hbm, ⟨18, _⟩ => ⟨S6x2x8x8192x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S8x1024x128, .bf16⟩
  | .local _ .vmem, ⟨6, _⟩ => ⟨S8x1024x128, .bf16⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HeadsReferenceIdeal.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5120 : Shape := ⟨2, ![1024, 5120]⟩
abbrev S2x8192x5120 : Shape := ⟨3, ![2, 8192, 5120]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S1x2x8x8192x64 : Shape := ⟨5, ![1, 2, 8, 8192, 64]⟩
abbrev S6x2x8x8192x64 : Shape := ⟨5, ![6, 2, 8, 8192, 64]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x5120, .f32⟩
  | .hbm, ⟨21, _⟩ => ⟨S2x8192x5120, .f32⟩
  | .hbm, ⟨22, _⟩ => ⟨S2x8192x512, .f32⟩
  | .hbm, ⟨23, _⟩ => ⟨S2x8192x8x64, .f32⟩
  | .hbm, ⟨24, _⟩ => ⟨S2x8x8192x64, .f32⟩
  | .hbm, ⟨25, _⟩ => ⟨S_, .f32⟩
  | .hbm, ⟨26, _⟩ => ⟨S2x8x8192x64, .f32⟩
  | .hbm, ⟨27, _⟩ => ⟨S2x8x8192x64, .f32⟩
  | .hbm, ⟨28, _⟩ => ⟨S2x8192x512, .f32⟩
  | .hbm, ⟨29, _⟩ => ⟨S2x8192x8x64, .f32⟩
  | .hbm, ⟨30, _⟩ => ⟨S2x8x8192x64, .f32⟩
  | .hbm, ⟨31, _⟩ => ⟨S2x8192x512, .f32⟩
  | .hbm, ⟨32, _⟩ => ⟨S2x8192x8x64, .f32⟩
  | .hbm, ⟨33, _⟩ => ⟨S2x8x8192x64, .f32⟩
  | .hbm, ⟨34, _⟩ => ⟨S2x8192x512, .f32⟩
  | .hbm, ⟨35, _⟩ => ⟨S2x8192x8x64, .f32⟩
  | .hbm, ⟨36, _⟩ => ⟨S2x8x8192x64, .f32⟩
  | .hbm, ⟨37, _⟩ => ⟨S_, .f32⟩
  | .hbm, ⟨38, _⟩ => ⟨S2x8x8192x64, .f32⟩
  | .hbm, ⟨39, _⟩ => ⟨S2x8x8192x64, .f32⟩
  | .hbm, ⟨40, _⟩ => ⟨S2x8192x512, .f32⟩
  | .hbm, ⟨41, _⟩ => ⟨S2x8192x8x64, .f32⟩
  | .hbm, ⟨42, _⟩ => ⟨S2x8x8192x64, .f32⟩
  | .hbm, ⟨43, _⟩ => ⟨S2x8192x512, .f32⟩
  | .hbm, ⟨44, _⟩ => ⟨S2x8192x8x64, .f32⟩
  | .hbm, ⟨45, _⟩ => ⟨S2x8x8192x64, .f32⟩
  | .hbm, ⟨46, _⟩ => ⟨S1x2x8x8192x64, .f32⟩
  | .hbm, ⟨47, _⟩ => ⟨S1x2x8x8192x64, .f32⟩
  | .hbm, ⟨48, _⟩ => ⟨S1x2x8x8192x64, .f32⟩
  | .hbm, ⟨49, _⟩ => ⟨S1x2x8x8192x64, .f32⟩
  | .hbm, ⟨50, _⟩ => ⟨S1x2x8x8192x64, .f32⟩
  | .hbm, ⟨51, _⟩ => ⟨S1x2x8x8192x64, .f32⟩
  | .hbm, ⟨52, _⟩ => ⟨S6x2x8x8192x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Gates.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024x5120 : Shape := ⟨2, ![1024, 5120]⟩
abbrev S1024x2048 : Shape := ⟨2, ![1024, 2048]⟩
abbrev S16384x1024 : Shape := ⟨2, ![16384, 1024]⟩
abbrev S1024 : Shape := ⟨1, ![1024]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024x5120, .f32⟩
  | .hbm, ⟨4, _⟩ => ⟨S1024x2048, .f32⟩
  | .hbm, ⟨5, _⟩ => ⟨S1024x2048, .bf16⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5120 : Shape := ⟨2, ![1024, 5120]⟩
abbrev S2x8192x5120 : Shape := ⟨3, ![2, 8192, 5120]⟩
abbrev S2x8192x2048 : Shape := ⟨3, ![2, 8192, 2048]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x5120, .f32⟩
  | .hbm, ⟨21, _⟩ => ⟨S2x8192x5120, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x8192x2048, .f32⟩
  | .hbm, ⟨30, _⟩ => ⟨S2x8192x2048, .f32⟩
  | .hbm, ⟨31, _⟩ => ⟨S16384x2048, .f32⟩
  | .hbm, ⟨32, _⟩ => ⟨S16384x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Mix.lean ====
abbrev S2x8192x1024 : Shape := ⟨3, ![2, 8192, 1024]⟩
abbrev S2x8x8192x64 : Shape := ⟨4, ![2, 8, 8192, 64]⟩
abbrev S2x8192x2048 : Shape := ⟨3, ![2, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S16384x1024 : Shape := ⟨2, ![16384, 1024]⟩
abbrev S8x2x8192x64 : Shape := ⟨4, ![8, 2, 8192, 64]⟩
abbrev S8x16384x64 : Shape := ⟨3, ![8, 16384, 64]⟩
abbrev S_ : Shape := ⟨0, ![]⟩
abbrev S8x16384x128 : Shape := ⟨3, ![8, 16384, 128]⟩
abbrev S16384x2048 : Shape := ⟨2, ![16384, 2048]⟩
abbrev S512x1024 : Shape := ⟨2, ![512, 1024]⟩
abbrev S8x64x1024 : Shape := ⟨3, ![8, 64, 1024]⟩
abbrev S8x128x1024 : Shape := ⟨3, ![8, 128, 1024]⟩
abbrev S4x256x1024 : Shape := ⟨3, ![4, 256, 1024]⟩
abbrev S1024x1024 : Shape := ⟨2, ![1024, 1024]⟩
abbrev S1024 : Shape := ⟨1, ![1024]⟩
abbrev S1024x2048 : Shape := ⟨2, ![1024, 2048]⟩
abbrev S8x512x128 : Shape := ⟨3, ![8, 512, 128]⟩
abbrev S512x2048 : Shape := ⟨2, ![512, 2048]⟩
abbrev S1x512x128 : Shape := ⟨3, ![1, 512, 128]⟩
abbrev S512x128 : Shape := ⟨2, ![512, 128]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 47
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8x8192x64, .f32⟩
  | .hbm, ⟨2, _⟩ => ⟨S2x8x8192x64, .f32⟩
  | .hbm, ⟨3, _⟩ => ⟨S2x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S16384x1024, .f32⟩
  | .hbm, ⟨10, _⟩ => ⟨S8x2x8192x64, .f32⟩
  | .hbm, ⟨11, _⟩ => ⟨S8x16384x64, .f32⟩
  | .hbm, ⟨12, _⟩ => ⟨S_, .i32⟩
  | .hbm, ⟨13, _⟩ => ⟨S_, .f32⟩
  | .hbm, ⟨14, _⟩ => ⟨S8x16384x128, .f32⟩
  | .hbm, ⟨15, _⟩ => ⟨S8x16384x128, .bf16⟩
  | .hbm, ⟨16, _⟩ => ⟨S8x2x8192x64, .f32⟩
  | .hbm, ⟨17, _⟩ => ⟨S8x16384x64, .f32⟩
  | .hbm, ⟨18, _⟩ => ⟨S_, .i32⟩
  | .hbm, ⟨19, _⟩ => ⟨S_, .f32⟩
  | .hbm, ⟨20, _⟩ => ⟨S8x16384x128, .f32⟩
  | .hbm, ⟨21, _⟩ => ⟨S8x16384x128, .bf16⟩
  | .hbm, ⟨22, _⟩ => ⟨S16384x2048, .f32⟩
  | .hbm, ⟨23, _⟩ => ⟨S16384x2048, .bf16⟩
  | .hbm, ⟨24, _⟩ => ⟨S512x1024, .f32⟩
  | .hbm, ⟨25, _⟩ => ⟨S8x64x1024, .f32⟩
  | .hbm, ⟨26, _⟩ => ⟨S_, .i32⟩
  | .hbm, ⟨27, _⟩ => ⟨S_, .f32⟩
  | .hbm, ⟨28, _⟩ => ⟨S8x128x1024, .f32⟩
  | .hbm, ⟨29, _⟩ => ⟨S4x256x1024, .f32⟩
  | .hbm, ⟨30, _⟩ => ⟨S4x256x1024, .bf16⟩
  | .hbm, ⟨31, _⟩ => ⟨S512x1024, .f32⟩
  | .hbm, ⟨32, _⟩ => ⟨S8x64x1024, .f32⟩
  | .hbm, ⟨33, _⟩ => ⟨S_, .i32⟩
  | .hbm, ⟨34, _⟩ => ⟨S_, .f32⟩
  | .hbm, ⟨35, _⟩ => ⟨S8x128x1024, .f32⟩
  | .hbm, ⟨36, _⟩ => ⟨S4x256x1024, .f32⟩
  | .hbm, ⟨37, _⟩ => ⟨S4x256x1024, .bf16⟩
  | .hbm, ⟨38, _⟩ => ⟨S1024x1024, .f32⟩
  | .hbm, ⟨39, _⟩ => ⟨S1024x1024, .bf16⟩
  | .hbm, ⟨40, _⟩ => ⟨S1024, .f32⟩
  | .hbm, ⟨41, _⟩ => ⟨S1x1024, .f32⟩
  | .hbm, ⟨42, _⟩ => ⟨S1024x2048, .f32⟩
  | .hbm, ⟨43, _⟩ => ⟨S1024x2048, .bf16⟩
  | .hbm, ⟨44, _⟩ => ⟨S16384x1024, .f32⟩
  | .hbm, ⟨45, _⟩ => ⟨S16384x1024, .bf16⟩
  | .hbm, ⟨46, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S512x2048, .bf16⟩
  | .local _ .vmem, ⟨7, _⟩ => ⟨S512x2048, .bf16⟩
  | .local _ .vmem, ⟨8, _⟩ => ⟨S4x256x1024, .bf16⟩
  | .local _ .vmem, ⟨9, _⟩ => ⟨S4x256x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .f32⟩
  | .local _ .vmem, ⟨18, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_call2_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_call3_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S2x8192x1024 : Shape := ⟨3, ![2, 8192, 1024]⟩
abbrev S2x8x8192x64 : Shape := ⟨4, ![2, 8, 8192, 64]⟩
abbrev S2x8192x2048 : Shape := ⟨3, ![2, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S2x8192x8x64 : Shape := ⟨4, ![2, 8192, 8, 64]⟩
abbrev S2x8192x512 : Shape := ⟨3, ![2, 8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x8192x64, .f32⟩
  | .hbm, ⟨2, _⟩ => ⟨S2x8x8192x64, .f32⟩
  | .hbm, ⟨3, _⟩ => ⟨S2x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S2x8192x8x64, .f32⟩
  | .hbm, ⟨10, _⟩ => ⟨S2x8192x512, .f32⟩
  | .hbm, ⟨11, _⟩ => ⟨S512x1024, .f32⟩
  | .hbm, ⟨12, _⟩ => ⟨S2x8192x1024, .f32⟩
  | .hbm, ⟨13, _⟩ => ⟨S2x8192x8x64, .f32⟩
  | .hbm, ⟨14, _⟩ => ⟨S2x8192x512, .f32⟩
  | .hbm, ⟨15, _⟩ => ⟨S512x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S1024x1024, .f32⟩
  | .hbm, ⟨23, _⟩ => ⟨S2x8192x1024, .f32⟩
  | .hbm, ⟨24, _⟩ => ⟨S2x8192x1024, .f32⟩
  | .hbm, ⟨25, _⟩ => ⟨S1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | .hbm, ⟨43, _⟩ => ⟨S16384x1024, .f32⟩
  | .hbm, ⟨44, _⟩ => ⟨S16384x1024, .bf16⟩
  | .hbm, ⟨45, _⟩ => ⟨S1024x2048, .f32⟩
  | .hbm, ⟨46, _⟩ => ⟨S2x8192x2048, .f32⟩
  | .hbm, ⟨47, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Moba.lean ====
abbrev S2x8x8192x64 : Shape := ⟨4, ![2, 8, 8192, 64]⟩
abbrev S8 : Shape := ⟨1, ![8]⟩
abbrev S_ : Shape := ⟨0, ![]⟩
abbrev S8x2x8192x64 : Shape := ⟨4, ![8, 2, 8192, 64]⟩
abbrev S8x16384x64 : Shape := ⟨3, ![8, 16384, 64]⟩
abbrev S8x16384x128 : Shape := ⟨3, ![8, 16384, 128]⟩
abbrev S24x16384x128 : Shape := ⟨3, ![24, 16384, 128]⟩
abbrev S4x256x128 : Shape := ⟨3, ![4, 256, 128]⟩
abbrev S4x8192x128 : Shape := ⟨3, ![4, 8192, 128]⟩
abbrev S4x32x128 : Shape := ⟨3, ![4, 32, 128]⟩
abbrev S256x128 : Shape := ⟨2, ![256, 128]⟩
abbrev S1 : Shape := ⟨1, ![1]⟩
abbrev S1x256x128 : Shape := ⟨3, ![1, 256, 128]⟩
abbrev S128 : Shape := ⟨1, ![128]⟩
abbrev S1x128 : Shape := ⟨2, ![1, 128]⟩
abbrev S1x1x128 : Shape := ⟨3, ![1, 1, 128]⟩
abbrev S32x256 : Shape := ⟨2, ![32, 256]⟩
abbrev S256x256 : Shape := ⟨2, ![256, 256]⟩
abbrev S1x32x128 : Shape := ⟨3, ![1, 32, 128]⟩
abbrev S32x128 : Shape := ⟨2, ![32, 128]⟩
abbrev S256 : Shape := ⟨1, ![256]⟩
abbrev S1x256 : Shape := ⟨2, ![1, 256]⟩
abbrev S64x256 : Shape := ⟨2, ![64, 256]⟩
abbrev S128x256 : Shape := ⟨2, ![128, 256]⟩
abbrev S256x1 : Shape := ⟨2, ![256, 1]⟩
abbrev S1x2048x128 : Shape := ⟨3, ![1, 2048, 128]⟩
abbrev S2048x128 : Shape := ⟨2, ![2048, 128]⟩
abbrev S256x2048 : Shape := ⟨2, ![256, 2048]⟩
abbrev S1x1024x128 : Shape := ⟨3, ![1, 1024, 128]⟩
abbrev S1024x128 : Shape := ⟨2, ![1024, 128]⟩
abbrev S256x1024 : Shape := ⟨2, ![256, 1024]⟩

abbrev nBuf : Space → Nat
  | .hbm => 44
  | .vmem => 9
  | .smem => 1
  | _ => 0

abbrev bufTy : (tb : Table) → Fin (tcTables nBuf tb) → BufTy
  | .hbm, ⟨0, _⟩ => ⟨S2x8x8192x64, .f32⟩
  | .hbm, ⟨1, _⟩ => ⟨S2x8x8192x64, .f32⟩
  | .hbm, ⟨2, _⟩ => ⟨S2x8x8192x64, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S2x8x8192x64, .f32⟩
  | .hbm, ⟨19, _⟩ => ⟨S2x8x8192x64, .f32⟩
  | .hbm, ⟨20, _⟩ => ⟨S8x2x8192x64, .f32⟩
  | .hbm, ⟨21, _⟩ => ⟨S8x16384x64, .f32⟩
  | .hbm, ⟨22, _⟩ => ⟨S_, .i32⟩
  | .hbm, ⟨23, _⟩ => ⟨S_, .f32⟩
  | .hbm, ⟨24, _⟩ => ⟨S8x16384x128, .f32⟩
  | .hbm, ⟨25, _⟩ => ⟨S8x16384x128, .bf16⟩
  | .hbm, ⟨26, _⟩ => ⟨S8x2x8192x64, .f32⟩
  | .hbm, ⟨27, _⟩ => ⟨S8x16384x64, .f32⟩
  | .hbm, ⟨28, _⟩ => ⟨S_, .i32⟩
  | .hbm, ⟨29, _⟩ => ⟨S_, .f32⟩
  | .hbm, ⟨30, _⟩ => ⟨S8x16384x128, .f32⟩
  | .hbm, ⟨31, _⟩ => ⟨S8x16384x128, .bf16⟩
  | .hbm, ⟨32, _⟩ => ⟨S8x2x8192x64, .f32⟩
  | .hbm, ⟨33, _⟩ => ⟨S8x16384x64, .f32⟩
  | .hbm, ⟨34, _⟩ => ⟨S_, .i32⟩
  | .hbm, ⟨35, _⟩ => ⟨S_, .f32⟩
  | .hbm, ⟨36, _⟩ => ⟨S8x16384x128, .f32⟩
  | .hbm, ⟨37, _⟩ => ⟨S8x16384x128, .bf16⟩
  | .hbm, ⟨38, _⟩ => ⟨S24x16384x128, .bf16⟩
  | .hbm, ⟨39, _⟩ => ⟨S8x16384x128, .bf16⟩
  | .hbm, ⟨40, _⟩ => ⟨S8x16384x64, .bf16⟩
  | .hbm, ⟨41, _⟩ => ⟨S8x2x8192x64, .bf16⟩
  | .hbm, ⟨42, _⟩ => ⟨S2x8x8192x64, .bf16⟩
  | .hbm, ⟨43, _⟩ => ⟨S2x8x8192x64, .f32⟩
  | .local _ .vmem, ⟨0, _⟩ => ⟨S4x256x128, .bf16⟩
  | .local _ .vmem, ⟨1, _⟩ => ⟨S4x256x128, .bf16⟩
  | .local _ .vmem, ⟨2, _⟩ => ⟨S4x8192x128, .bf16⟩
  | .local _ .vmem, ⟨3, _⟩ => ⟨S4x8192x128, .bf16⟩
  | .local _ .vmem, ⟨4, _⟩ => ⟨S4x256x128, .bf16⟩
  | .local _ .vmem, ⟨5, _⟩ => ⟨S4x256x128, .bf16⟩
  | .local _ .vmem, ⟨6, _⟩ => ⟨S4x8192x128, .bf16⟩
  | .local _ .vmem, ⟨7, _⟩ => ⟨S4x8192x128, .bf16⟩
  | .local _ .vmem, ⟨8, _⟩ => ⟨S4x32x128, .f32⟩
  | .local _ .smem, ⟨0, _⟩ => ⟨S8, .f32⟩
  | _, _ => ⟨S2x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32_3 : BitVec 32 := 0#32
  let v11 : BitVec 1 := Scalar.cmpi .eq arg1 c0_i32_3
  let v12 : BitVec 32 := Scalar.extui v11
  let c0_i32_4 : BitVec 32 := 0#32
  let v13 : BitVec 1 := Scalar.cmpi .ne v12 c0_i32_4
  v13

def k0_off1 (i : grid0.Coords) (c0_i32_217 : BitVec 32) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let v604 : BitVec 32 := Scalar.addi v10 c0_i32_217
  let v605 : Index := Scalar.indexCast v604
  ![v605.toNat]
@[reducible] def k0_t1_loop : Scf.Loop 32 :=
  let c0_i32_218 : BitVec 32 := 0#32
  let c32_i32_219 : BitVec 32 := 32#32
  let v607 : BitVec 32 := Scalar.addi c0_i32_218 c32_i32_219
  let c1_i32_220 : BitVec 32 := 1#32
  ⟨c0_i32_218, v607, c1_i32_220⟩
def k0_mult1 (k0_t1 : Fin k0_t1_loop.trips) : BitVec 32 :=
  let c0_i32_218 : BitVec 32 := 0#32
  let c1_i32_220 : BitVec 32 := 1#32
  let arg10 : BitVec 32 := Scf.iv c0_i32_218 c1_i32_220 k0_t1
  let c256_i32_237 : BitVec 32 := 256#32
  let v620 : BitVec 32 := Scalar.muli arg10 c256_i32_237
  v620
def k0_off2 (k0_t1 : Fin k0_t1_loop.trips) : Fin 3 → Nat :=
  let c0_238 : Index := 0#32
  let c0_i32_218 : BitVec 32 := 0#32
  let c1_i32_220 : BitVec 32 := 1#32
  let arg10 : BitVec 32 := Scf.iv c0_i32_218 c1_i32_220 k0_t1
  let c256_i32_237 : BitVec 32 := 256#32
  let v620 : BitVec 32 := Scalar.muli arg10 c256_i32_237
  let v621 : BitVec 32 := v620
  let v622 : Index := Scalar.indexCast v621
  let c0_239 : Index := 0#32
  ![0, v622.toNat, 0]
def k0_off3 (k0_t1 : Fin k0_t1_loop.trips) : Fin 3 → Nat :=
  let c0_242 : Index := 0#32
  let c0_i32_218 : BitVec 32 := 0#32
  let c1_i32_220 : BitVec 32 := 1#32
  let arg10 : BitVec 32 := Scf.iv c0_i32_218 c1_i32_220 k0_t1
  let v630 : Index := Scalar.indexCast arg10
  let c0_243 : Index := 0#32
  ![0, v630.toNat, 0]
@[reducible] def k0_t2_loop : Scf.Loop 32 :=
  let c0_i32_223 : BitVec 32 := 0#32
  let c32_i32_224 : BitVec 32 := 32#32
  let v611 : BitVec 32 := Scalar.addi c0_i32_223 c32_i32_224
  let c1_i32_225 : BitVec 32 := 1#32
  ⟨c0_i32_223, v611, c1_i32_225⟩
def k0_mult2 (k0_t2 : Fin k0_t2_loop.trips) : BitVec 32 :=
  let c0_i32_223 : BitVec 32 := 0#32
  let c1_i32_225 : BitVec 32 := 1#32
  let arg10 : BitVec 32 := Scf.iv c0_i32_223 c1_i32_225 k0_t2
  let c256_i32_237 : BitVec 32 := 256#32
  let v620 : BitVec 32 := Scalar.muli arg10 c256_i32_237
  v620
def k0_off4 (k0_t2 : Fin k0_t2_loop.trips) : Fin 3 → Nat :=
  let c1_238 : Index := 1#32
  let c0_i32_223 : BitVec 32 := 0#32
  let c1_i32_225 : BitVec 32 := 1#32
  let arg10 : BitVec 32 := Scf.iv c0_i32_223 c1_i32_225 k0_t2
  let c256_i32_237 : BitVec 32 := 256#32
  let v620 : BitVec 32 := Scalar.muli arg10 c256_i32_237
  let v621 : BitVec 32 := v620
  let v622 : Index := Scalar.indexCast v621
  let c0_239 : Index := 0#32
  ![1, v622.toNat, 0]
def k0_off5 (k0_t2 : Fin k0_t2_loop.trips) : Fin 3 → Nat :=
  let c1_242 : Index := 1#32
  let c0_i32_223 : BitVec 32 := 0#32
  let c1_i32_225 : BitVec 32 := 1#32
  let arg10 : BitVec 32 := Scf.iv c0_i32_223 c1_i32_225 k0_t2
  let v630 : Index := Scalar.indexCast arg10
  let c0_243 : Index := 0#32
  ![1, v630.toNat, 0]
@[reducible] def k0_t3_loop : Scf.Loop 32 :=
  let c0_i32_228 : BitVec 32 := 0#32
  let c32_i32_229 : BitVec 32 := 32#32
  let v615 : BitVec 32 := Scalar.addi c0_i32_228 c32_i32_229
  let c1_i32_230 : BitVec 32 := 1#32
  ⟨c0_i32_228, v615, c1_i32_230⟩
def k0_mult3 (k0_t3 : Fin k0_t3_loop.trips) : BitVec 32 :=
  let c0_i32_228 : BitVec 32 := 0#32
  let c1_i32_230 : BitVec 32 := 1#32
  let arg10 : BitVec 32 := Scf.iv c0_i32_228 c1_i32_230 k0_t3
  let c256_i32_237 : BitVec 32 := 256#32
  let v620 : BitVec 32 := Scalar.muli arg10 c256_i32_237
  v620
def k0_off6 (k0_t3 : Fin k0_t3_loop.trips) : Fin 3 → Nat :=
  let c2_238 : Index := 2#32
  let c0_i32_228 : BitVec 32 := 0#32
  let c1_i32_230 : BitVec 32 := 1#32
  let arg10 : BitVec 32 := Scf.iv c0_i32_228 c1_i32_230 k0_t3
  let c256_i32_237 : BitVec 32 := 256#32
  let v620 : BitVec 32 := Scalar.muli arg10 c256_i32_237
  let v621 : BitVec 32 := v620
  let v622 : Index := Scalar.indexCast v621
  let c0_239 : Index := 0#32
  ![2, v622.toNat, 0]
def k0_off7 (k0_t3 : Fin k0_t3_loop.trips) : Fin 3 → Nat :=
  let c2_242 : Index := 2#32
  let c0_i32_228 : BitVec 32 := 0#32
  let c1_i32_230 : BitVec 32 := 1#32
  let arg10 : BitVec 32 := Scf.iv c0_i32_228 c1_i32_230 k0_t3
  let v630 : Index := Scalar.indexCast arg10
  let c0_243 : Index := 0#32
  ![2, v630.toNat, 0]
@[reducible] def k0_t4_loop : Scf.Loop 32 :=
  let c0_i32_233 : BitVec 32 := 0#32
  let c32_i32_234 : BitVec 32 := 32#32
  let v619 : BitVec 32 := Scalar.addi c0_i32_233 c32_i32_234
  let c1_i32_235 : BitVec 32 := 1#32
  ⟨c0_i32_233, v619, c1_i32_235⟩
def k0_mult4 (k0_t4 : Fin k0_t4_loop.trips) : BitVec 32 :=
  let c0_i32_233 : BitVec 32 := 0#32
  let c1_i32_235 : BitVec 32 := 1#32
  let arg10 : BitVec 32 := Scf.iv c0_i32_233 c1_i32_235 k0_t4
  let c256_i32_237 : BitVec 32 := 256#32
  let v620 : BitVec 32 := Scalar.muli arg10 c256_i32_237
  v620
def k0_off8 (k0_t4 : Fin k0_t4_loop.trips) : Fin 3 → Nat :=
  let c3_238 : Index := 3#32
  let c0_i32_233 : BitVec 32 := 0#32
  let c1_i32_235 : BitVec 32 := 1#32
  let arg10 : BitVec 32 := Scf.iv c0_i32_233 c1_i32_235 k0_t4
  let c256_i32_237 : BitVec 32 := 256#32
  let v620 : BitVec 32 := Scalar.muli arg10 c256_i32_237
  let v621 : BitVec 32 := v620
  let v622 : Index := Scalar.indexCast v621
  let c0_239 : Index := 0#32
  ![3, v622.toNat, 0]
def k0_off9 (k0_t4 : Fin k0_t4_loop.trips) : Fin 3 → Nat :=
  let c3_242 : Index := 3#32
  let c0_i32_233 : BitVec 32 := 0#32
  let c1_i32_235 : BitVec 32 := 1#32
  let arg10 : BitVec 32 := Scf.iv c0_i32_233 c1_i32_235 k0_t4
  let v630 : Index := Scalar.indexCast arg10
  let c0_243 : Index := 0#32
  ![3, v630.toNat, 0]
def k0_mult5 (i : grid0.Coords) : BitVec 32 :=
  let arg1 : BitVec 32 := BitVec.ofNat 32 (i 1).val
  let c256_i32_5 : BitVec 32 := 256#32
  let v26 : BitVec 32 := Scalar.muli arg1 c256_i32_5
  v26
def k0_off10 (i : grid0.Coords) (c0_i32_29 : BitVec 32) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let v55 : BitVec 32 := Scalar.addi v10 c0_i32_29
  let v56 : Index := Scalar.indexCast v55
  ![v56.toNat]
def k0_off11 (i : grid0.Coords) : Fin 3 → Nat :=
  let c0_35 : Index := 0#32
  let arg1 : BitVec 32 := BitVec.ofNat 32 (i 1).val
  let c256_i32_5 : BitVec 32 := 256#32
  let v26 : BitVec 32 := Scalar.muli arg1 c256_i32_5
  let v27 : BitVec 32 := v26
  let v90 : Index := Scalar.indexCast v27
  let c0_36 : Index := 0#32
  ![0, v90.toNat, 0]
def k0_off12 (i : grid0.Coords) : Fin 3 → Nat :=
  let c1_48 : Index := 1#32
  let arg1 : BitVec 32 := BitVec.ofNat 32 (i 1).val
  let c256_i32_5 : BitVec 32 := 256#32
  let v26 : BitVec 32 := Scalar.muli arg1 c256_i32_5
  let v27 : BitVec 32 := v26
  let v129 : Index := Scalar.indexCast v27
  let c0_49 : Index := 0#32
  ![1, v129.toNat, 0]
def k0_off13 (i : grid0.Coords) : Fin 3 → Nat :=
  let c2_61 : Index := 2#32
  let arg1 : BitVec 32 := BitVec.ofNat 32 (i 1).val
  let c256_i32_5 : BitVec 32 := 256#32
  let v26 : BitVec 32 := Scalar.muli arg1 c256_i32_5
  let v27 : BitVec 32 := v26
  let v168 : Index := Scalar.indexCast v27
  let c0_62 : Index := 0#32
  ![2, v168.toNat, 0]
def k0_off14 (i : grid0.Coords) : Fin 3 → Nat :=
  let c3_73 : Index := 3#32
  let arg1 : BitVec 32 := BitVec.ofNat 32 (i 1).val
  let c256_i32_5 : BitVec 32 := 256#32
  let v26 : BitVec 32 := Scalar.muli arg1 c256_i32_5
  let v27 : BitVec 32 := v26
  let v207 : Index := Scalar.indexCast v27
  let c0_74 : Index := 0#32
  ![3, v207.toNat, 0]
@[reducible] def k0_t5_loop (i : grid0.Coords) : Scf.Loop 32 :=
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let c1_i32_184 : BitVec 32 := 1#32
  ⟨c0_i32_182, v537, c1_i32_184⟩
def k0_mult6 (i : grid0.Coords) (k0_t5 : Fin (k0_t5_loop i).trips) : BitVec 32 :=
  let c0_i32_182 : BitVec 32 := 0#32
  let c1_i32_184 : BitVec 32 := 1#32
  let arg10 : BitVec 32 := Scf.iv c0_i32_182 c1_i32_184 k0_t5
  let c8_i32_209 : BitVec 32 := 8#32
  let v590 : BitVec 32 := Scalar.muli arg10 c8_i32_209
  let c256_i32_210 : BitVec 32 := 256#32
  let v591 : BitVec 32 := Scalar.muli v590 c256_i32_210
  v591
def k0_off15 (i : grid0.Coords) (k0_t5 : Fin (k0_t5_loop i).trips) : Fin 3 → Nat :=
  let c0_211 : Index := 0#32
  let c0_i32_182 : BitVec 32 := 0#32
  let c1_i32_184 : BitVec 32 := 1#32
  let arg10 : BitVec 32 := Scf.iv c0_i32_182 c1_i32_184 k0_t5
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v593 : Index := Scalar.indexCast v592
  let c0_212 : Index := 0#32
  ![0, v593.toNat, 0]
def k0_off16 (i : grid0.Coords) (k0_t5 : Fin (k0_t5_loop i).trips) : Fin 3 → Nat :=
  let c1_214 : Index := 1#32
  let c0_i32_182 : BitVec 32 := 0#32
  let c1_i32_184 : BitVec 32 := 1#32
  let arg10 : BitVec 32 := Scf.iv c0_i32_182 c1_i32_184 k0_t5
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v597 : Index := Scalar.indexCast v592
  let c0_215 : Index := 0#32
  ![1, v597.toNat, 0]
def k0_off17 (i : grid0.Coords) (k0_t5 : Fin (k0_t5_loop i).trips) : Fin 3 → Nat :=
  let c2_217 : Index := 2#32
  let c0_i32_182 : BitVec 32 := 0#32
  let c1_i32_184 : BitVec 32 := 1#32
  let arg10 : BitVec 32 := Scf.iv c0_i32_182 c1_i32_184 k0_t5
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v601 : Index := Scalar.indexCast v592
  let c0_218 : Index := 0#32
  ![2, v601.toNat, 0]
def k0_off18 (i : grid0.Coords) (k0_t5 : Fin (k0_t5_loop i).trips) : Fin 3 → Nat :=
  let c3_220 : Index := 3#32
  let c0_i32_182 : BitVec 32 := 0#32
  let c1_i32_184 : BitVec 32 := 1#32
  let arg10 : BitVec 32 := Scf.iv c0_i32_182 c1_i32_184 k0_t5
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v605 : Index := Scalar.indexCast v592
  let c0_221 : Index := 0#32
  ![3, v605.toNat, 0]
@[reducible] def k0_t6_loop (i : grid0.Coords) : Scf.Loop 32 :=
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let v534 : BitVec 32 := Scalar.addi c0_i32_182 v533
  let c1_i32_185 : BitVec 32 := 1#32
  ⟨v537, v534, c1_i32_185⟩
def k0_mult7 (i : grid0.Coords) (k0_t6 : Fin (k0_t6_loop i).trips) : BitVec 32 :=
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let c1_i32_185 : BitVec 32 := 1#32
  let arg10 : BitVec 32 := Scf.iv v537 c1_i32_185 k0_t6
  let c8_i32_209 : BitVec 32 := 8#32
  let v590 : BitVec 32 := Scalar.muli arg10 c8_i32_209
  let c256_i32_210 : BitVec 32 := 256#32
  let v591 : BitVec 32 := Scalar.muli v590 c256_i32_210
  v591
def k0_off19 (i : grid0.Coords) (k0_t6 : Fin (k0_t6_loop i).trips) : Fin 3 → Nat :=
  let c0_211 : Index := 0#32
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let c1_i32_185 : BitVec 32 := 1#32
  let arg10 : BitVec 32 := Scf.iv v537 c1_i32_185 k0_t6
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v593 : Index := Scalar.indexCast v592
  let c0_212 : Index := 0#32
  ![0, v593.toNat, 0]
def k0_off20 (i : grid0.Coords) (k0_t6 : Fin (k0_t6_loop i).trips) : Fin 3 → Nat :=
  let c1_214 : Index := 1#32
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let c1_i32_185 : BitVec 32 := 1#32
  let arg10 : BitVec 32 := Scf.iv v537 c1_i32_185 k0_t6
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v597 : Index := Scalar.indexCast v592
  let c0_215 : Index := 0#32
  ![1, v597.toNat, 0]
def k0_off21 (i : grid0.Coords) (k0_t6 : Fin (k0_t6_loop i).trips) : Fin 3 → Nat :=
  let c2_217 : Index := 2#32
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let c1_i32_185 : BitVec 32 := 1#32
  let arg10 : BitVec 32 := Scf.iv v537 c1_i32_185 k0_t6
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v601 : Index := Scalar.indexCast v592
  let c0_218 : Index := 0#32
  ![2, v601.toNat, 0]
def k0_off22 (i : grid0.Coords) (k0_t6 : Fin (k0_t6_loop i).trips) : Fin 3 → Nat :=
  let c3_220 : Index := 3#32
  let c0_i32_182 : BitVec 32 := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c4_i32_181 : BitVec 32 := 4#32
  let v530 : BitVec 1 := Scalar.cmpi .sgt v529 c4_i32_181
  let v531 : BitVec 32 := Scalar.extui v530
  let v532 : BitVec 32 := Scalar.addi v527 v531
  let v533 : BitVec 32 := Scalar.subi v532 c0_i32_182
  let c1_i32_183 : BitVec 32 := 1#32
  let v535 : BitVec 32 := Scalar.divsi v533 c1_i32_183
  let v536 : BitVec 32 := Scalar.muli v535 c1_i32_183
  let v537 : BitVec 32 := Scalar.addi c0_i32_182 v536
  let c1_i32_185 : BitVec 32 := 1#32
  let arg10 : BitVec 32 := Scf.iv v537 c1_i32_185 k0_t6
  let c8_i32_209 : BitVec 32 := 8#32
  let v590 : BitVec 32 := Scalar.muli arg10 c8_i32_209
  let c256_i32_210 : BitVec 32 := 256#32
  let v591 : BitVec 32 := Scalar.muli v590 c256_i32_210
  let v592 : BitVec 32 := v591
  let v605 : Index := Scalar.indexCast v592
  let c0_221 : Index := 0#32
  ![3, v605.toNat, 0]
def k0_cond2 (i : grid0.Coords) : BitVec 1 :=
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_180 : BitVec 32 := 8#32
  let v528 : BitVec 32 := Scalar.muli v527 c8_i32_180
  let v529 : BitVec 32 := Scalar.subi arg1 v528
  let c0_i32_186 : BitVec 32 := 0#32
  let v540 : BitVec 1 := Scalar.cmpi .sgt v529 c0_i32_186
  let c4_i32_187 : BitVec 32 := 4#32
  let v541 : BitVec 1 := Scalar.cmpi .sle v529 c4_i32_187
  let v542 : BitVec 1 := Scalar.andi v540 v541
  let v543 : BitVec 32 := Scalar.extui v542
  let c0_i32_188 : BitVec 32 := 0#32
  let v544 : BitVec 1 := Scalar.cmpi .ne v543 c0_i32_188
  v544

def k0_mult8 (i : grid0.Coords) : BitVec 32 :=
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_209 : BitVec 32 := 8#32
  let v590 : BitVec 32 := Scalar.muli v527 c8_i32_209
  let c256_i32_210 : BitVec 32 := 256#32
  let v591 : BitVec 32 := Scalar.muli v590 c256_i32_210
  v591
def k0_off23 (i : grid0.Coords) : Fin 3 → Nat :=
  let c0_211 : Index := 0#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_209 : BitVec 32 := 8#32
  let v590 : BitVec 32 := Scalar.muli v527 c8_i32_209
  let c256_i32_210 : BitVec 32 := 256#32
  let v591 : BitVec 32 := Scalar.muli v590 c256_i32_210
  let v592 : BitVec 32 := v591
  let v593 : Index := Scalar.indexCast v592
  let c0_212 : Index := 0#32
  ![0, v593.toNat, 0]
def k0_off24 (i : grid0.Coords) : Fin 3 → Nat :=
  let c1_214 : Index := 1#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_209 : BitVec 32 := 8#32
  let v590 : BitVec 32 := Scalar.muli v527 c8_i32_209
  let c256_i32_210 : BitVec 32 := 256#32
  let v591 : BitVec 32 := Scalar.muli v590 c256_i32_210
  let v592 : BitVec 32 := v591
  let v597 : Index := Scalar.indexCast v592
  let c0_215 : Index := 0#32
  ![1, v597.toNat, 0]
def k0_off25 (i : grid0.Coords) : Fin 3 → Nat :=
  let c2_217 : Index := 2#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_209 : BitVec 32 := 8#32
  let v590 : BitVec 32 := Scalar.muli v527 c8_i32_209
  let c256_i32_210 : BitVec 32 := 256#32
  let v591 : BitVec 32 := Scalar.muli v590 c256_i32_210
  let v592 : BitVec 32 := v591
  let v601 : Index := Scalar.indexCast v592
  let c0_218 : Index := 0#32
  ![2, v601.toNat, 0]
def k0_off26 (i : grid0.Coords) : Fin 3 → Nat :=
  let c3_220 : Index := 3#32
  let arg1 : BitVec 32 := BitVec.ofNat 32 (i 1).val
  let c0_i32_174 : BitVec 32 := 0#32
  let v512 : BitVec 1 := Scalar.cmpi .sgt arg1 c0_i32_174
  let v513 : BitVec 32 := Scalar.extui v512
  let c0_i32_175 : BitVec 32 := 0#32
  let v514 : BitVec 1 := Scalar.cmpi .slt arg1 c0_i32_175
  let v515 : BitVec 32 := Scalar.extui v514
  let v516 : BitVec 32 := Scalar.subi v513 v515
  let c8_i32 : BitVec 32 := 8#32
  let c0_i32_176 : BitVec 32 := 0#32
  let v517 : BitVec 1 := Scalar.cmpi .sgt c8_i32 c0_i32_176
  let v518 : BitVec 32 := Scalar.extui v517
  let c0_i32_177 : BitVec 32 := 0#32
  let v519 : BitVec 1 := Scalar.cmpi .slt c8_i32 c0_i32_177
  let v520 : BitVec 32 := Scalar.extui v519
  let v521 : BitVec 32 := Scalar.subi v518 v520
  let v522 : BitVec 1 := Scalar.cmpi .ne v516 v521
  let v523 : BitVec 32 := Scalar.remsi arg1 c8_i32
  let c0_i32_178 : BitVec 32 := 0#32
  let v524 : BitVec 1 := Scalar.cmpi .ne v523 c0_i32_178
  let v525 : BitVec 1 := Scalar.andi v522 v524
  let v511 : BitVec 32 := Scalar.divsi arg1 c8_i32
  let c1_i32_179 : BitVec 32 := 1#32
  let v526 : BitVec 32 := Scalar.subi v511 c1_i32_179
  let v527 : BitVec 32 := Scalar.select v525 v526 v511
  let c8_i32_209 : BitVec 32 := 8#32
  let v590 : BitVec 32 := Scalar.muli v527 c8_i32_209
  let c256_i32_210 : BitVec 32 := 256#32
  let v591 : BitVec 32 := Scalar.muli v590 c256_i32_210
  let v592 : BitVec 32 := v591
  let v605 : Index := Scalar.indexCast v592
  let c0_221 : Index := 0#32
  ![3, v605.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c32_i32 : BitVec 32 := 32#32
  let v27 : BitVec 32 := Scalar.muli v26 c32_i32
  let v28 : BitVec 32 := Scalar.addi v27 arg1
  let c0_i32_10 : BitVec 32 := 0#32
  let c0_i32_11 : BitVec 32 := 0#32
  ![v9.toNat, v28.toNat, c0_i32_10.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c0_i32_11 : BitVec 32 := 0#32
  let c0_i32_12 : BitVec 32 := 0#32
  ![v10.toNat, v27.toNat, c0_i32_11.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.addi c4_i32 v9
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, v27.toNat, c0_i32_10.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c32_i32 : BitVec 32 := 32#32
  let v27 : BitVec 32 := Scalar.muli v26 c32_i32
  let v28 : BitVec 32 := Scalar.addi v27 arg1
  let c0_i32_10 : BitVec 32 := 0#32
  let c0_i32_11 : BitVec 32 := 0#32
  ![v9.toNat, v28.toNat, c0_i32_10.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Proof.MB.Fill.lean ====
/-
  The first part of the kernel body, at a point where the scratch arrays are filled and at one where they are not: the inputs stay,
  the scratch arrays end at some contents.
-/
module

public import proofs.«01_k».proof.Proof.Gen.Moba.Frame
public import proofs.«01_k».proof.Proof.Gen.Moba.Loops
public import proofs.«01_k».proof.Proof.Gen.Moba.Skeleton
public import Idealize.ShloMosaic.Lib.LoopRemainder
public import Idealize.ShloMosaic.Lib.Ring

@[expose] public section

set_option maxRecDepth 65536

noncomputable section

namespace Cert.Moba.MB

open Cert.Moba Cert.Moba.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
/-- Fill loop 1 by its invariant; the head's base index does not enter its trips. -/
@[sl_loop] def fillLoop1 (V' : Variants) (c : Dev nD) (bd : Option V'.V) (E : Set ℕ) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (k0_h1 : k0_cond1 i = 1#1) (v594 : IVec S256x128 32) (v595 : IVec S256x128 32) (v606 : Elt F .f32) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) :
    LoopInv (M := MT nD τ sig Unit (Elt F) ℕ (UR sig nD τ) ℕ) Idealize.ShloMosaic.frame (wpE defs₀ V' (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 0#32 k0_h1 v594 v595 v606) :=
  loopInv_k0_t1 V' c bd E i arg2 harg2 arg3 harg3 arg4 harg4 arg5 harg5 arg6 harg6 arg7 harg7 arg8 harg8 arg9 harg9 0#32 k0_h1 v594 v595 v606 X_arg4 X_arg5 G_arg7 G_arg8 G_arg9

set_option warn.classDefReducibility false in
/-- Fill loop 2 by its invariant; the head's base index does not enter its trips. -/
@[sl_loop] def fillLoop2 (V' : Variants) (c : Dev nD) (bd : Option V'.V) (E : Set ℕ) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (k0_h1 : k0_cond1 i = 1#1) (v594 : IVec S256x128 32) (v595 : IVec S256x128 32) (v610 : Elt F .f32) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) :
    LoopInv (M := MT nD τ sig Unit (Elt F) ℕ (UR sig nD τ) ℕ) Idealize.ShloMosaic.frame (wpE defs₀ V' (c : Thread nD τ) bd) E
      k0_t2_loop.lb k0_t2_loop.ub k0_t2_loop.st (k0_t2_ok i k0_h1) () (k0_t2_body (F := F) i arg2 harg2 arg3 harg3 arg4 harg4 arg5 harg5 arg6 harg6 arg7 harg7 arg8 harg8 arg9 harg9 0#32 k0_h1 v594 v595 v610) :=
  loopInv_k0_t2 V' c bd E i arg2 harg2 arg3 harg3 arg4 harg4 arg5 harg5 arg6 harg6 arg7 harg7 arg8 harg8 arg9 harg9 0#32 k0_h1 v594 v595 v610 X_arg4 X_arg5 G_arg7 G_arg8 G_arg9

set_option warn.classDefReducibility false in
/-- Fill loop 3 by its invariant; the head's base index does not enter its trips. -/
@[sl_loop] def fillLoop3 (V' : Variants) (c : Dev nD) (bd : Option V'.V) (E : Set ℕ) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (k0_h1 : k0_cond1 i = 1#1) (v594 : IVec S256x128 32) (v595 : IVec S256x128 32) (v614 : Elt F .f32) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) :
    LoopInv (M := MT nD τ sig Unit (Elt F) ℕ (UR sig nD τ) ℕ) Idealize.ShloMosaic.frame (wpE defs₀ V' (c : Thread nD τ) bd) E
      k0_t3_loop.lb k0_t3_loop.ub k0_t3_loop.st (k0_t3_ok i k0_h1) () (k0_t3_body (F := F) i arg2 harg2 arg3 harg3 arg4 harg4 arg5 harg5 arg6 harg6 arg7 harg7 arg8 harg8 arg9 harg9 0#32 k0_h1 v594 v595 v614) :=
  loopInv_k0_t3 V' c bd E i arg2 harg2 arg3 harg3 arg4 harg4 arg5 harg5 arg6 harg6 arg7 harg7 arg8 harg8 arg9 harg9 0#32 k0_h1 v594 v595 v614 X_arg4 X_arg5 G_arg7 G_arg8 G_arg9

set_option maxHeartbeats 8000000 in
/-- The first part at a point that fills the scratch arrays. -/
theorem part9_fill (c : Dev nD) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (hc1 : k0_cond1 i = 1#1)
    (x0 : Vec F S8 .f32) (x1 : Vec F S4x256x128 .bf16) (x2 : Vec F S4x8192x128 .bf16) (x3 : Vec F S4x8192x128 .bf16)
    (E : Set ℕ) (K : (Σ' (arg1 : BitVec 32) (v10 : BitVec 32) (v14 : IVec S256x128 32) (v19 : IVec S256x128 1) (v20 : IVec S32x256 32) (v25 : FVec F S256x128 .f32) (v27 : BitVec 32) (v30 : IVec S256x256 1) (v33 : FVec F S256x128 .f32), FVec F S256x128 .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d)
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d)) -∗ K r))
          ⊢ wp frame (wpE (defs₀ (F := F)) Variants.none c none) E (k0_part9 i arg2 harg2 arg3 harg3 arg4 harg4 arg5 harg5 arg6 harg6 arg7 harg7 arg8 harg8 arg9 harg9) K := by
    rw [k0_part9_eq_skeleton]; unfold k0_part9_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexists _; isplitr; swap; · iexact HS0
      ipureintro; rfl
    isplitl [HS1]
    · iexists _; iexists _; isplitr; swap; · iexact HS1
      ipureintro; rfl
    iexists _; iexists _; isplitr; swap; · iexact HS2
    ipureintro; rfl

set_option maxHeartbeats 8000000 in
/-- The first part at a point that keeps the scratch arrays. -/
theorem part9_keep (c : Dev nD) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (hc1 : ¬ k0_cond1 i = 1#1)
    (x0 : Vec F S8 .f32) (x1 : Vec F S4x256x128 .bf16) (x2 : Vec F S4x8192x128 .bf16) (x3 : Vec F S4x8192x128 .bf16)
    (E : Set ℕ) (K : (Σ' (arg1 : BitVec 32) (v10 : BitVec 32) (v14 : IVec S256x128 32) (v19 : IVec S256x128 1) (v20 : IVec S32x256 32) (v25 : FVec F S256x128 .f32) (v27 : BitVec 32) (v30 : IVec S256x256 1) (v33 : FVec F S256x128 .f32), FVec F S256x128 .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d)
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d)) -∗ K r))
          ⊢ wp frame (wpE (defs₀ (F := F)) Variants.none c none) E (k0_part9 i arg2 harg2 arg3 harg3 arg4 harg4 arg5 harg5 arg6 harg6 arg7 harg7 arg8 harg8 arg9 harg9) K := by
    rw [k0_part9_eq_skeleton]; unfold k0_part9_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexists _; isplitr; swap; · iexact HS0
      ipureintro; rfl
    isplitl [HS1]
    · iexists _; iexists _; isplitr; swap; · iexact HS1
      ipureintro; rfl
    iexists _; iexists _; isplitr; swap; · iexact HS2
    ipureintro; rfl

end Cert.Moba.MB

end
-- ==== Proof.MB.Body.lean ====
/-
  The kernel body at a grid point: the inputs stay, the output block and the scratch arrays end at some contents.
-/
module

public import proofs.«01_k».proof.Proof.Gen.Moba.Frame
public import proofs.«01_k».proof.Proof.Gen.Moba.Loops
public import proofs.«01_k».proof.Proof.Gen.Moba.Skeleton
public import proofs.«01_k».proof.Proof.MB.Fill
public import Idealize.ShloMosaic.Lib.LoopRemainder
public import Idealize.ShloMosaic.Lib.Ring

@[expose] public section

set_option maxRecDepth 65536

noncomputable section

namespace Cert.Moba.MB

open Cert.Moba Cert.Moba.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first part at any point. -/
theorem part9_any (c : Dev nD) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole)
    (x0 : Vec F S8 .f32) (x1 : Vec F S4x256x128 .bf16) (x2 : Vec F S4x8192x128 .bf16) (x3 : Vec F S4x8192x128 .bf16)
    (E : Set ℕ) (K : (Σ' (arg1 : BitVec 32) (v10 : BitVec 32) (v14 : IVec S256x128 32) (v19 : IVec S256x128 1) (v20 : IVec S32x256 32) (v25 : FVec F S256x128 .f32) (v27 : BitVec 32) (v30 : IVec S256x256 1) (v33 : FVec F S256x128 .f32), FVec F S256x128 .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d)
            ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d)) -∗ K r))
          ⊢ wp frame (wpE (defs₀ (F := F)) Variants.none c none) E (k0_part9 i arg2 harg2 arg3 harg3 arg4 harg4 arg5 harg5 arg6 harg6 arg7 harg7 arg8 harg8 arg9 harg9) K := by
  by_cases hc1 : k0_cond1 i = 1#1
  · exact part9_fill c i arg2 harg2 arg3 harg3 arg4 harg4 arg5 harg5 arg6 harg6 arg7 harg7 arg8 harg8 arg9 harg9 hc1 x0 x1 x2 x3 E K
  · exact part9_keep c i arg2 harg2 arg3 harg3 arg4 harg4 arg5 harg5 arg6 harg6 arg7 harg7 arg8 harg8 arg9 harg9 hc1 x0 x1 x2 x3 E K

set_option maxHeartbeats 8000000 in
/-- The body at a point with a last half chunk. -/
theorem body_half (c : Dev nD) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (hc2 : k0_cond2 i = 1#1)
    (x0 : Vec F S8 .f32) (x1 : Vec F S4x256x128 .bf16) (x2 : Vec F S4x8192x128 .bf16) (x3 : Vec F S4x8192x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_moba_attn i arg2 harg2 arg3 harg3 arg4 harg4 arg5 harg5 arg6 harg6 arg7 harg7 arg8 harg8 arg9 harg9) K := by
    simp only [cc0_moba_attn_eq_skeleton]; unfold cc0_moba_attn_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    rw [wp_bind]
    iintro ⟨H0, H1, H2, H3, ⟨%d4, H4⟩, HS0, HS1, HS2, Hk⟩
    iapply (part9_any c i arg2 harg2 arg3 harg3 arg4 harg4 arg5 harg5 arg6 harg6 arg7 harg7 arg8 harg8 arg9 harg9 x0 x1 x2 x3 E _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    unfold owns
    icases H4 with ⟨%f4, -, H4⟩
    iintro %r ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩⟩
    obtain rfl := harg2.eq_unread hf0; obtain rfl := harg3.eq_unread hf1; obtain rfl := harg4.eq_unread hf2; obtain rfl := harg5.eq_unread hf3
    obtain ⟨w1, w10, w14, w19, w20, w25, w27, w30, w33, w36⟩ := r
    sl_exec (disch := first | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexists _; isplitr; swap; · iexact H4
      ipureintro; rfl
    isplitl [HS0]
    · iexists _; iexists _; isplitr; swap; · iexact HS0
      ipureintro; rfl
    isplitl [HS1]
    · iexists _; iexists _; isplitr; swap; · iexact HS1
      ipureintro; rfl
    iexists _; iexists _; isplitr; swap; · iexact HS2
    ipureintro; rfl

set_option maxHeartbeats 8000000 in
/-- The body at a point with whole chunks only. -/
theorem body_whole (c : Dev nD) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole) (hc2 : ¬ k0_cond2 i = 1#1)
    (x0 : Vec F S8 .f32) (x1 : Vec F S4x256x128 .bf16) (x2 : Vec F S4x8192x128 .bf16) (x3 : Vec F S4x8192x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_moba_attn i arg2 harg2 arg3 harg3 arg4 harg4 arg5 harg5 arg6 harg6 arg7 harg7 arg8 harg8 arg9 harg9) K := by
    simp only [cc0_moba_attn_eq_skeleton]; unfold cc0_moba_attn_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    rw [wp_bind]
    iintro ⟨H0, H1, H2, H3, ⟨%d4, H4⟩, HS0, HS1, HS2, Hk⟩
    iapply (part9_any c i arg2 harg2 arg3 harg3 arg4 harg4 arg5 harg5 arg6 harg6 arg7 harg7 arg8 harg8 arg9 harg9 x0 x1 x2 x3 E _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    unfold owns
    icases H4 with ⟨%f4, -, H4⟩
    iintro %r ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩⟩
    obtain rfl := harg2.eq_unread hf0; obtain rfl := harg3.eq_unread hf1; obtain rfl := harg4.eq_unread hf2; obtain rfl := harg5.eq_unread hf3
    obtain ⟨w1, w10, w14, w19, w20, w25, w27, w30, w33, w36⟩ := r
    sl_exec (disch := first | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexists _; isplitr; swap; · iexact H4
      ipureintro; rfl
    isplitl [HS0]
    · iexists _; iexists _; isplitr; swap; · iexact HS0
      ipureintro; rfl
    isplitl [HS1]
    · iexists _; iexists _; isplitr; swap; · iexact HS1
      ipureintro; rfl
    iexists _; iexists _; isplitr; swap; · iexact HS2
    ipureintro; rfl

/-- The body at any point. -/
theorem body_any (c : Dev nD) (i : grid0.Coords) (arg2 : Memref sig .tc .smem S8 .f32) (harg2 : arg2.IsWhole) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S4x8192x128 .bf16) (harg7 : arg7.IsWhole) (arg8 : Memref sig .tc .vmem S4x8192x128 .bf16) (harg8 : arg8.IsWhole) (arg9 : Memref sig .tc .vmem S4x32x128 .f32) (harg9 : arg9.IsWhole)
    (x0 : Vec F S8 .f32) (x1 : Vec F S4x256x128 .bf16) (x2 : Vec F S4x8192x128 .bf16) (x3 : Vec F S4x8192x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_moba_attn i arg2 harg2 arg3 harg3 arg4 harg4 arg5 harg5 arg6 harg6 arg7 harg7 arg8 harg8 arg9 harg9) K := by
  by_cases hc2 : k0_cond2 i = 1#1
  · exact body_half c i arg2 harg2 arg3 harg3 arg4 harg4 arg5 harg5 arg6 harg6 arg7 harg7 arg8 harg8 arg9 harg9 hc2 x0 x1 x2 x3 E K
  · exact body_whole c i arg2 harg2 arg3 harg3 arg4 harg4 arg5 harg5 arg6 harg6 arg7 harg7 arg8 harg8 arg9 harg9 hc2 x0 x1 x2 x3 E K

end Cert.Moba.MB

end
-- ==== Proof.MB.Launch.lean ====
/-
  The run of the block-sparse attention's call: the host lines before it, the kernel at every grid point (the body's triple, of
  which the output block and the scratch arrays are left unnamed), the host lines after it; from it the frame.
-/
module

public import proofs.«01_k».proof.Proof.MB.Body
public import Idealize.ShloMosaic.Lib.Pipeline.FrameSuffix
public import Idealize.ShloMosaic.Lib.Claim

@[expose] public section

set_option maxRecDepth 16384

noncomputable section

namespace Cert.Moba.MB

open Cert.Moba Cert.Moba.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents the run does not name: the result's. -/
def unnamed (w : Fin cfg0.W) : Bool :=
  match w with
  | ⟨4, _⟩ => true
  | _ => false

/-- The proof data: the arrays as the region finds them; each input's buffer at its block after the body; the scratch at
    anything; an input array that several windows read held in equal shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d

/-- What the body is called with at a point, -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns. -/
def bodyPost (c : Dev nD) (t : Fin cfg0.N) : sProp 𝕄 :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ X, owns (c : Thread nD τ) (st0_4 t) fullShare X))

/-- What the launch hands the region: the three scratch arrays at anything, and the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [PhiA0_eq]
  iintro ⟨⟨⟨S0, S1, S2⟩, Hg⟩, Ho, ⟨%d0, H0⟩, ⟨%d1, H1⟩, ⟨%d2, H2⟩, ⟨%d3, H3⟩, H4⟩
  iapply (body_any c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ unnamed := fun t => by
  rw [bigSep_W0, bigSep_W0, defs₀_row]
  exact triple_restated (sound_body m c t) rfl .rfl fun _ => .rfl

/-- The buffers that the host lines after the call write. -/
def written : Finset (Ref sig .tc) := {main_v26, main_v27, main_v28, main_v29}

theorem writes_in : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_writes, StableHlo.unary_writes, StableHlo.binary_writes, StableHlo.ternary_writes, StableHlo.reshape_writes, Finset.mem_singleton] at hb
    obtain rfl := Proc.devRef_injective _ hb
    decide

/-- The run: what no host line after the call writes ends as the call found it, and every counter at zero. -/
theorem run_rest :
    θ_run defs (onTc (τ := τ) (main (F := F))) (s₀ m ρ)
      (fun r => Pipeline.RDat.FramePostR (cfgs 0) (fun c => (dats m 0 c).toRForget unnamed) written
          (fun c b => V0 m c (Proc.devRef .tc b)) r ∧ r.2.sem = (fun _ => 0)) :=
  Pipeline.θ_run_frame_around_T_forget_shared (Q' := _) cfgs (dats m) (0 : Fin 1) launch₀0 defs₀ Variants.none unnamed written m ρ main
    (hbody := fun c => body_obligation m c) (hq := fun _ _ _ => rfl)
    (howed := fun _ _ => rfl) (V₀ := V0 m) (opss := [hostOps1]) (hsub := sfx_sub) (hfresh := sfx_fresh) (hkeep := sfx_keeps)
    (hT := writes_in) (hmain := hmain m Variants.none) (hA := A_eq m) (hΦ := fun _ _ => rfl) (hQ' := fun _ h => h)

/-- An argument is no array of the call and no host line after it writes it. -/
theorem rest_of (b : Ref sig .tc) (hb : b ∈ Pipeline.restRefs sig spec0) (hw : b ∉ written) :
    b ∈ Pipeline.restRefs sig spec0 \ written := Finset.mem_sdiff.mpr ⟨hb, hw⟩

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (rest_of main_arg0 (Pipeline.mem_restRefs_of main_arg0 (by decide) (by decide)) (by decide))).trans (V_main_arg0 m c),
      ((h.1 c).2 main_arg1 (rest_of main_arg1 (Pipeline.mem_restRefs_of main_arg1 (by decide) (by decide)) (by decide))).trans (V_main_arg1 m c),
      ((h.1 c).2 main_arg2 (rest_of main_arg2 (Pipeline.mem_restRefs_of main_arg2 (by decide) (by decide)) (by decide))).trans (V_main_arg2 m c)⟩, h.2⟩)
    (run_rest m ρ)

end Cert.Moba.MB

end
-- ==== Proof.SB.Step.lean ====
/-
  The pure steps of the stick-breaking kernel: what one head does with one block of keys and values, on the diagonal
  block and on an earlier one, the eight heads' state, and the loop over the earlier blocks as a recursion. The printed
  payloads, head by head, are these functions.
-/
module

public import proofs.«01_k».proof.Proof.Gen.KernelIdeal.Skeleton
public import Idealize.ShloMosaic.Lib.Pipeline.FrameBody
public import Idealize.ShloMosaic.Lib.ValueIdxCore

@[expose] public section

set_option maxRecDepth 16384

noncomputable section

namespace Cert.KernelIdeal.SB

open Cert.KernelIdeal Cert.KernelIdeal.Gen
open Idealize.ShloMosaic Idealize.ShloMosaic.TcCoe Idealize.ShloMosaic.Tactic Idealize.ShloMosaic.ValueIdx

variable {F : FTy → Type} [FloatOps F]

/-! ### One head, one block -/

/-- The scores of a block of queries against a block of keys. -/
def zT (q k : Vec F S1x256x128 .bf16) : FVec F S256x256 .f32 := k0_pay6 q k
/-- The inclusive suffix sums of the masked logs of the diagonal block. -/
def cumD (v1 : FVec F S256x256 .bf16) (z : FVec F S256x256 .f32) : FVec F S256x256 .f32 := k0_pay17 v1 z k0_pay15 (k0_pay16 z)
/-- The inclusive suffix sums of the logs of an earlier block. -/
def cumL (v1 : FVec F S256x256 .bf16) (z : FVec F S256x256 .f32) : FVec F S256x256 .f32 := k0_pay78 v1 (k0_pay76 z) (k0_pay77 z)
/-- The log of the stick left after the block. -/
def carryN (v2 : FVec F S256x1 .f32) (cum : FVec F S256x256 .f32) : FVec F S256x1 .f32 := k0_pay31 v2 cum
/-- The stick left after the block. -/
def decayN (v2 : FVec F S256x1 .f32) (cum : FVec F S256x256 .f32) : FVec F S256x1 .f32 := k0_pay32 v2 cum
/-- The values gathered after the diagonal block. -/
def accD (d : FVec F S256x1 .f32) (a : FVec F S256x128 .f32) (z cum : FVec F S256x256 .f32) (v : Vec F S1x256x128 .bf16) : FVec F S256x128 .f32 :=
  k0_pay33 d a z k0_pay15 cum v
/-- The values gathered after an earlier block. -/
def accL (d : FVec F S256x1 .f32) (a : FVec F S256x128 .f32) (z cum : FVec F S256x256 .f32) (v : Vec F S1x256x128 .bf16) : FVec F S256x128 .f32 :=
  k0_pay95 d a z cum v
/-- The largest stick left of one head. -/
def maxHead (d : FVec F S256x1 .f32) : F .f32 :=
  extractAt ![0, 0, 0] (shapeCast S1x1x1 (multiReduction .maximumf [1, 2] S1 (shapeCast S1x256x1 d shapeCasts_S256x1_S1x256x1) 0xFF800000#32
    reduces_S1x256x1_S1 (.inl rfl) rfl) shapeCasts_S1_S1x1x1) inpos_S1x1x1_p0_0_0
/-- The largest stick left of the eight heads. -/
def maxAll (d0 d1 d2 d3 d4 d5 d6 d7 : FVec F S256x1 .f32) : F .f32 :=
  Scalar.maximumf (Scalar.maximumf (Scalar.maximumf (Scalar.maximumf (Scalar.maximumf (Scalar.maximumf (Scalar.maximumf
    (maxHead d0) (maxHead d1)) (maxHead d2)) (maxHead d3)) (maxHead d4)) (maxHead d5)) (maxHead d6)) (maxHead d7)
/-- A head's gathered values as stored. -/
def outT (a : FVec F S256x128 .f32) : FVec F S1x256x128 .bf16 := k0_pay59 a

/-! ### The printed payloads, head by head -/

theorem z7 (q k : Vec F S1x256x128 .bf16) : k0_pay7 q k = zT q k := rfl
theorem z8 (q k : Vec F S1x256x128 .bf16) : k0_pay8 q k = zT q k := rfl
theorem z11 (q k : Vec F S1x256x128 .bf16) : k0_pay11 q k = zT q k := rfl
theorem z12 (q k : Vec F S1x256x128 .bf16) : k0_pay12 q k = zT q k := rfl
theorem z13 (q k : Vec F S1x256x128 .bf16) : k0_pay13 q k = zT q k := rfl
theorem z14 (q k : Vec F S1x256x128 .bf16) : k0_pay14 q k = zT q k := rfl
theorem z67 (q k : Vec F S1x256x128 .bf16) : k0_pay67 q k = zT q k := rfl
theorem z68 (q k : Vec F S1x256x128 .bf16) : k0_pay68 q k = zT q k := rfl
theorem z69 (q k : Vec F S1x256x128 .bf16) : k0_pay69 q k = zT q k := rfl
theorem z70 (q k : Vec F S1x256x128 .bf16) : k0_pay70 q k = zT q k := rfl
theorem z73 (q k : Vec F S1x256x128 .bf16) : k0_pay73 q k = zT q k := rfl
theorem z74 (q k : Vec F S1x256x128 .bf16) : k0_pay74 q k = zT q k := rfl
theorem z75 (q k : Vec F S1x256x128 .bf16) : k0_pay75 q k = zT q k := rfl
theorem z9 (q k : Vec F S1x256x128 .bf16) : k0_pay10 (k0_pay9 q) k = zT q k := rfl
theorem z71 (q k : Vec F S1x256x128 .bf16) : k0_pay72 (k0_pay71 q) k = zT q k := rfl
theorem z6 (q k : Vec F S1x256x128 .bf16) : k0_pay6 q k = zT q k := rfl
theorem cd17 (v1 : FVec F S256x256 .bf16) (z : FVec F S256x256 .f32) : k0_pay17 v1 z k0_pay15 (k0_pay16 z) = cumD v1 z := rfl
theorem cd18 (v1 : FVec F S256x256 .bf16) (z : FVec F S256x256 .f32) : k0_pay18 v1 z k0_pay15 = cumD v1 z := rfl
theorem cd22 (v1 : FVec F S256x256 .bf16) (z : FVec F S256x256 .f32) : k0_pay22 v1 z k0_pay15 = cumD v1 z := rfl
theorem cd26 (v1 : FVec F S256x256 .bf16) (z : FVec F S256x256 .f32) : k0_pay26 v1 z k0_pay15 = cumD v1 z := rfl
theorem cd30 (v1 : FVec F S256x256 .bf16) (z : FVec F S256x256 .f32) : k0_pay30 v1 z k0_pay15 = cumD v1 z := rfl
theorem cd21 (v1 : FVec F S256x256 .bf16) (z : FVec F S256x256 .f32) : k0_pay21 v1 k0_pay15 (k0_pay19 z) (k0_pay20 z) = cumD v1 z := rfl
theorem cd25 (v1 : FVec F S256x256 .bf16) (z : FVec F S256x256 .f32) : k0_pay25 v1 k0_pay15 (k0_pay23 z) (k0_pay24 z) = cumD v1 z := rfl
theorem cd29 (v1 : FVec F S256x256 .bf16) (z : FVec F S256x256 .f32) : k0_pay29 v1 k0_pay15 (k0_pay27 z) k0_pay28 = cumD v1 z := rfl
theorem ca31 (v2 : FVec F S256x1 .f32) (cum : FVec F S256x256 .f32) : k0_pay31 v2 cum = carryN v2 cum := rfl
theorem ca35 (v2 : FVec F S256x1 .f32) (cum : FVec F S256x256 .f32) : k0_pay35 v2 cum = carryN v2 cum := rfl
theorem ca38 (v2 : FVec F S256x1 .f32) (cum : FVec F S256x256 .f32) : k0_pay38 v2 cum = carryN v2 cum := rfl
theorem ca41 (v2 : FVec F S256x1 .f32) (cum : FVec F S256x256 .f32) : k0_pay41 v2 cum = carryN v2 cum := rfl
theorem ca45 (v2 : FVec F S256x1 .f32) (cum : FVec F S256x256 .f32) : k0_pay45 v2 cum = carryN v2 cum := rfl
theorem ca48 (v2 : FVec F S256x1 .f32) (cum : FVec F S256x256 .f32) : k0_pay48 v2 cum = carryN v2 cum := rfl
theorem ca51 (v2 : FVec F S256x1 .f32) (cum : FVec F S256x256 .f32) : k0_pay51 v2 cum = carryN v2 cum := rfl
theorem ca55 (v2 : FVec F S256x1 .f32) (cum : FVec F S256x256 .f32) : k0_pay55 v2 cum = carryN v2 cum := rfl
theorem ca93 (v2 : FVec F S256x1 .f32) (cum : FVec F S256x256 .f32) : k0_pay93 v2 cum = carryN v2 cum := rfl
theorem ca96 (v2 : FVec F S256x1 .f32) (cum : FVec F S256x256 .f32) : k0_pay96 v2 cum = carryN v2 cum := rfl
theorem ca99 (v2 : FVec F S256x1 .f32) (cum : FVec F S256x256 .f32) : k0_pay99 v2 cum = carryN v2 cum := rfl
theorem ca104 (v2 : FVec F S256x1 .f32) (cum : FVec F S256x256 .f32) : k0_pay104 v2 cum = carryN v2 cum := rfl
theorem ca107 (v2 : FVec F S256x1 .f32) (cum : FVec F S256x256 .f32) : k0_pay107 v2 cum = carryN v2 cum := rfl
theorem ca110 (v2 : FVec F S256x1 .f32) (cum : FVec F S256x256 .f32) : k0_pay110 v2 cum = carryN v2 cum := rfl
theorem ca113 (v2 : FVec F S256x1 .f32) (cum : FVec F S256x256 .f32) : k0_pay113 v2 cum = carryN v2 cum := rfl
theorem ca117 (v2 : FVec F S256x1 .f32) (cum : FVec F S256x256 .f32) : k0_pay117 v2 cum = carryN v2 cum := rfl
theorem de32 (v2 : FVec F S256x1 .f32) (cum : FVec F S256x256 .f32) : k0_pay32 v2 cum = decayN v2 cum := rfl
theorem de36 (v2 : FVec F S256x1 .f32) (cum : FVec F S256x256 .f32) : k0_pay36 v2 cum = decayN v2 cum := rfl
theorem de39 (v2 : FVec F S256x1 .f32) (cum : FVec F S256x256 .f32) : k0_pay39 v2 cum = decayN v2 cum := rfl
theorem de42 (v2 : FVec F S256x1 .f32) (cum : FVec F S256x256 .f32) : k0_pay42 v2 cum = decayN v2 cum := rfl
theorem de46 (v2 : FVec F S256x1 .f32) (cum : FVec F S256x256 .f32) : k0_pay46 v2 cum = decayN v2 cum := rfl
theorem de49 (v2 : FVec F S256x1 .f32) (cum : FVec F S256x256 .f32) : k0_pay49 v2 cum = decayN v2 cum := rfl
theorem de52 (v2 : FVec F S256x1 .f32) (cum : FVec F S256x256 .f32) : k0_pay52 v2 cum = decayN v2 cum := rfl
theorem de56 (v2 : FVec F S256x1 .f32) (cum : FVec F S256x256 .f32) : k0_pay56 v2 cum = decayN v2 cum := rfl
theorem de94 (v2 : FVec F S256x1 .f32) (cum : FVec F S256x256 .f32) : k0_pay94 v2 cum = decayN v2 cum := rfl
theorem de97 (v2 : FVec F S256x1 .f32) (cum : FVec F S256x256 .f32) : k0_pay97 v2 cum = decayN v2 cum := rfl
theorem de100 (v2 : FVec F S256x1 .f32) (cum : FVec F S256x256 .f32) : k0_pay100 v2 cum = decayN v2 cum := rfl
theorem de105 (v2 : FVec F S256x1 .f32) (cum : FVec F S256x256 .f32) : k0_pay105 v2 cum = decayN v2 cum := rfl
theorem de108 (v2 : FVec F S256x1 .f32) (cum : FVec F S256x256 .f32) : k0_pay108 v2 cum = decayN v2 cum := rfl
theorem de111 (v2 : FVec F S256x1 .f32) (cum : FVec F S256x256 .f32) : k0_pay111 v2 cum = decayN v2 cum := rfl
theorem de114 (v2 : FVec F S256x1 .f32) (cum : FVec F S256x256 .f32) : k0_pay114 v2 cum = decayN v2 cum := rfl
theorem de118 (v2 : FVec F S256x1 .f32) (cum : FVec F S256x256 .f32) : k0_pay118 v2 cum = decayN v2 cum := rfl
theorem ad33 (d : FVec F S256x1 .f32) (a : FVec F S256x128 .f32) (z cum : FVec F S256x256 .f32) (v : Vec F S1x256x128 .bf16) : k0_pay33 d a z k0_pay15 cum v = accD d a z cum v := rfl
theorem ad40 (d : FVec F S256x1 .f32) (a : FVec F S256x128 .f32) (z cum : FVec F S256x256 .f32) (v : Vec F S1x256x128 .bf16) : k0_pay40 d a z k0_pay15 cum v = accD d a z cum v := rfl
theorem ad43 (d : FVec F S256x1 .f32) (a : FVec F S256x128 .f32) (z cum : FVec F S256x256 .f32) (v : Vec F S1x256x128 .bf16) : k0_pay43 d a z k0_pay15 cum v = accD d a z cum v := rfl
theorem ad50 (d : FVec F S256x1 .f32) (a : FVec F S256x128 .f32) (z cum : FVec F S256x256 .f32) (v : Vec F S1x256x128 .bf16) : k0_pay50 d a z k0_pay15 cum v = accD d a z cum v := rfl
theorem ad53 (d : FVec F S256x1 .f32) (a : FVec F S256x128 .f32) (z cum : FVec F S256x256 .f32) (v : Vec F S1x256x128 .bf16) : k0_pay53 d a z k0_pay15 cum v = accD d a z cum v := rfl
theorem ad37 (d : FVec F S256x1 .f32) (a : FVec F S256x128 .f32) (z cum : FVec F S256x256 .f32) (v : Vec F S1x256x128 .bf16) : k0_pay37 d a k0_pay15 (k0_pay34 z cum) (Scalar.ofBits .f32 0x00000000#32) v = accD d a z cum v := rfl
theorem ad47 (d : FVec F S256x1 .f32) (a : FVec F S256x128 .f32) (z cum : FVec F S256x256 .f32) (v : Vec F S1x256x128 .bf16) : k0_pay47 d a (k0_pay44 z k0_pay15 cum) v = accD d a z cum v := rfl
theorem ad57 (d : FVec F S256x1 .f32) (a : FVec F S256x128 .f32) (z cum : FVec F S256x256 .f32) (v : Vec F S1x256x128 .bf16) : k0_pay57 d a (k0_pay54 z k0_pay15 cum) v = accD d a z cum v := rfl
theorem cl78 (v1 : FVec F S256x256 .bf16) (z : FVec F S256x256 .f32) : k0_pay78 v1 (k0_pay76 z) (k0_pay77 z) = cumL v1 z := rfl
theorem cl79 (v1 : FVec F S256x256 .bf16) (z : FVec F S256x256 .f32) : k0_pay79 v1 z = cumL v1 z := rfl
theorem cl80 (v1 : FVec F S256x256 .bf16) (z : FVec F S256x256 .f32) : k0_pay80 v1 z = cumL v1 z := rfl
theorem cl83 (v1 : FVec F S256x256 .bf16) (z : FVec F S256x256 .f32) : k0_pay83 v1 z = cumL v1 z := rfl
theorem cl87 (v1 : FVec F S256x256 .bf16) (z : FVec F S256x256 .f32) : k0_pay87 v1 z = cumL v1 z := rfl
theorem cl82 (v1 : FVec F S256x256 .bf16) (z : FVec F S256x256 .f32) : k0_pay82 v1 z k0_pay81 = cumL v1 z := rfl
theorem cl86 (v1 : FVec F S256x256 .bf16) (z : FVec F S256x256 .f32) : k0_pay86 v1 (k0_pay84 z) (k0_pay85 z) (Scalar.ofBits .f32 0x3F800000#32) = cumL v1 z := rfl
theorem cl92 (v1 : FVec F S256x256 .bf16) (z : FVec F S256x256 .f32) : k0_pay92 v1 (k0_pay90 z) (k0_pay91 v1 z) = cumL v1 z := rfl
theorem al95 (d : FVec F S256x1 .f32) (a : FVec F S256x128 .f32) (z cum : FVec F S256x256 .f32) (v : Vec F S1x256x128 .bf16) : k0_pay95 d a z cum v = accL d a z cum v := rfl
theorem al98 (d : FVec F S256x1 .f32) (a : FVec F S256x128 .f32) (z cum : FVec F S256x256 .f32) (v : Vec F S1x256x128 .bf16) : k0_pay98 d a z cum v = accL d a z cum v := rfl
theorem al101 (d : FVec F S256x1 .f32) (a : FVec F S256x128 .f32) (z cum : FVec F S256x256 .f32) (v : Vec F S1x256x128 .bf16) : k0_pay101 d a z cum v = accL d a z cum v := rfl
theorem al109 (d : FVec F S256x1 .f32) (a : FVec F S256x128 .f32) (z cum : FVec F S256x256 .f32) (v : Vec F S1x256x128 .bf16) : k0_pay109 d a z cum v = accL d a z cum v := rfl
theorem al112 (d : FVec F S256x1 .f32) (a : FVec F S256x128 .f32) (z cum : FVec F S256x256 .f32) (v : Vec F S1x256x128 .bf16) : k0_pay112 d a z cum v = accL d a z cum v := rfl
theorem al115 (d : FVec F S256x1 .f32) (a : FVec F S256x128 .f32) (z cum : FVec F S256x256 .f32) (v : Vec F S1x256x128 .bf16) : k0_pay115 d a z cum v = accL d a z cum v := rfl
theorem al106 (d : FVec F S256x1 .f32) (a : FVec F S256x128 .f32) (z cum : FVec F S256x256 .f32) (v : Vec F S1x256x128 .bf16) : k0_pay106 d a (k0_pay102 z cum) (k0_pay103 v) (constant S256x128 .f32 0x00000000#32) = accL d a z cum v := rfl
theorem al119 (d : FVec F S256x1 .f32) (a : FVec F S256x128 .f32) (z cum : FVec F S256x256 .f32) (v : Vec F S1x256x128 .bf16) : k0_pay119 d a (k0_pay116 z cum) v = accL d a z cum v := rfl
theorem mx58 (v2 : FVec F S256x1 .f32) (cum : FVec F S256x256 .f32) (d0 d1 d2 d3 d4 d5 d6 : FVec F S256x1 .f32) : k0_pay58 v2 cum d0 d1 d2 d3 d4 d5 d6 = maxAll d0 d1 d2 d3 d4 d5 d6 (decayN v2 cum) := rfl
theorem mx120 (v2 : FVec F S256x1 .f32) (cum : FVec F S256x256 .f32) (d0 d1 d2 d3 d4 d5 d6 : FVec F S256x1 .f32) : k0_pay120 v2 cum d0 d1 d2 d3 d4 d5 d6 = maxAll d0 d1 d2 d3 d4 d5 d6 (decayN v2 cum) := rfl
theorem o60 (a : FVec F S256x128 .f32) : k0_pay60 a = outT a := rfl
theorem o61 (a : FVec F S256x128 .f32) : k0_pay61 a = outT a := rfl
theorem o62 (a : FVec F S256x128 .f32) : k0_pay62 a = outT a := rfl
theorem o63 (a : FVec F S256x128 .f32) : k0_pay63 a = outT a := rfl
theorem o64 (a : FVec F S256x128 .f32) : k0_pay64 a = outT a := rfl
theorem o65 (a : FVec F S256x128 .f32) : k0_pay65 a = outT a := rfl
theorem o59 (a : FVec F S256x128 .f32) : k0_pay59 a = outT a := rfl
theorem o66 (a : FVec F S256x128 .f32) : k0_pay1 (k0_pay66 a) = outT a := rfl

/-! ### The blocks read and the eight heads' state -/

/-- Head `h`'s block of queries. -/
def qBlk (x : Vec F S8x256x128 .bf16) (h : Fin 8) : Vec F S1x256x128 .bf16 := fun y => x (ix3 (n0 := 8) (n1 := 256) (n2 := 128) h (y 1) (y 2))

/-- Rows `256 b … 256 b + 255` of head `h`'s keys or values. -/
def kBlk (x : Vec F S8x8192x128 .bf16) (h : Fin 8) (b : ℕ) : Vec F S1x256x128 .bf16 :=
  fun y => x (ix3 (n0 := 8) (n1 := 8192) (n2 := 128) h ⟨(256 * b + (y 1).val) % 8192, Nat.mod_lt _ (by decide)⟩ (y 2))

theorem ld_q (x : Vec F S8x256x128 .bf16) (h : Fin 8) (off : Fin 3 → Nat) (ho : off = ![h.val, 0, 0])
    (inb : ∀ a, off a + S1x256x128.size a ≤ S8x256x128.size a) :
    View.ld x (Rect.unit (s := S8x256x128) off S1x256x128.size inb) = qBlk x h := by
  subst ho
  funext y
  refine congrArg x (funext fun a => ?_)
  fin_cases a
  · apply Fin.ext
    have h1 : (y 0).val < 1 := (y 0).isLt
    show h.val + 1 * (y 0).val = h.val
    omega
  · apply Fin.ext; show 0 + 1 * (y 1).val = (y 1).val; omega
  · apply Fin.ext; show 0 + 1 * (y 2).val = (y 2).val; omega

theorem ld_k (x : Vec F S8x8192x128 .bf16) (h : Fin 8) (b : ℕ) (hb : b < 32) (off : Fin 3 → Nat) (ho : off = ![h.val, 256 * b, 0])
    (inb : ∀ a, off a + S1x256x128.size a ≤ S8x8192x128.size a) :
    View.ld x (Rect.unit (s := S8x8192x128) off S1x256x128.size inb) = kBlk x h b := by
  subst ho
  funext y
  refine congrArg x (funext fun a => ?_)
  fin_cases a
  · apply Fin.ext
    have h1 : (y 0).val < 1 := (y 0).isLt
    show h.val + 1 * (y 0).val = h.val
    omega
  · apply Fin.ext
    have h1 : (y 1).val < 256 := (y 1).isLt
    show 256 * b + 1 * (y 1).val = (256 * b + (y 1).val) % 8192
    omega
  · apply Fin.ext; show 0 + 1 * (y 2).val = (y 2).val; omega

/-- One head's running state. -/
structure Head (F : FTy → Type) where
  carry : FVec F S256x1 .f32
  decay : FVec F S256x1 .f32
  acc : FVec F S256x128 .f32

/-- The state after the diagonal block. -/
def diagHead (v1 : FVec F S256x256 .bf16) (q k v : Vec F S1x256x128 .bf16) : Head F :=
  ⟨carryN k0_pay3 (cumD v1 (zT q k)), decayN k0_pay3 (cumD v1 (zT q k)), accD k0_pay4 k0_pay5 (zT q k) (cumD v1 (zT q k)) v⟩

/-- The state after one more, earlier, block. -/
def loopHead (v1 : FVec F S256x256 .bf16) (q k v : Vec F S1x256x128 .bf16) (s : Head F) : Head F :=
  ⟨carryN s.carry (cumL v1 (zT q k)), decayN s.carry (cumL v1 (zT q k)), accL s.decay s.acc (zT q k) (cumL v1 (zT q k)) v⟩

/-- Whether some stick is left. -/
def alive (s : Fin 8 → Head F) : BitVec 1 :=
  Scalar.cmpf .ogt (maxAll (s 0).decay (s 1).decay (s 2).decay (s 3).decay (s 4).decay (s 5).decay (s 6).decay (s 7).decay)
    (Scalar.ofBits .f32 0x00000000#32)

/-- The eight heads after the diagonal block `b`. -/
def diagState (x0 : Vec F S8x256x128 .bf16) (x1 x2 : Vec F S8x8192x128 .bf16) (v1 : FVec F S256x256 .bf16) (b : ℕ) : Fin 8 → Head F :=
  fun h => diagHead v1 (qBlk x0 h) (kBlk x1 h b) (kBlk x2 h b)

/-- The eight heads after the earlier block `b`. -/
def loopState (x0 : Vec F S8x256x128 .bf16) (x1 x2 : Vec F S8x8192x128 .bf16) (v1 : FVec F S256x256 .bf16) (b : ℕ) (s : Fin 8 → Head F) : Fin 8 → Head F :=
  fun h => loopHead v1 (qBlk x0 h) (kBlk x1 h b) (kBlk x2 h b) (s h)

/-- The trips from counter `j` with at most `k` to run: blocks `k - 1, k - 2, …, 0`, left early when no stick is left. -/
def loopFrom (x0 : Vec F S8x256x128 .bf16) (x1 x2 : Vec F S8x8192x128 .bf16) (v1 : FVec F S256x256 .bf16) :
    ℕ → ℕ → BitVec 1 → (Fin 8 → Head F) → ℕ × BitVec 1 × (Fin 8 → Head F)
  | 0, j, a, s => (j, a, s)
  | k + 1, j, a, s => if a = 1#1 then
      loopFrom x0 x1 x2 v1 k (j + 1) (alive (loopState x0 x1 x2 v1 k s)) (loopState x0 x1 x2 v1 k s)
    else (j, a, s)

end Cert.KernelIdeal.SB

end
-- ==== Proof.SB.Loop.lean ====
/-
  The label of the loop over the earlier blocks: what it returns, as a function of the buffers it reads and of the state
  it is entered with, and the proof that its body meets this, by induction on the blocks still to visit.
-/
module

public import proofs.«01_k».proof.Proof.SB.Step
public import Idealize.ShloMosaic.Lib.Tactic
public import Idealize.ShloMosaic.Lib.WordCmp

@[expose] public section

set_option maxRecDepth 65536

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's variants: the blocks the loop may still visit. -/
abbrev 𝒱₀ : Variants := Variants.nat

/-! ### The counter's arithmetic -/

/-- The first row of the block the counter names. -/
def row (i j : ℕ) : ℕ :=
  (Scalar.indexCast (Scalar.muli (Scalar.subi (Scalar.subi (BitVec.ofNat 32 i) 1#32) (BitVec.ofNat 32 j)) 256#32)).toNat

theorem row_eq (k j : ℕ) (h : j + (k + 1) < 32) : row (j + (k + 1)) j = 256 * k := by
  have H : ∀ a < 32, ∀ b < 32, b < a → row a b = 256 * (a - 1 - b) := by decide
  rw [H _ h j (by omega) (by omega)]
  congr 1
  omega

/-- The rows of the diagonal block. -/
def rowD (i : ℕ) : ℕ := (Scalar.indexCast (Scalar.muli (BitVec.ofNat 32 i) 256#32)).toNat

theorem rowD_eq (i : ℕ) (h : i < 32) : rowD i = 256 * i := by
  have H : ∀ a < 32, rowD a = 256 * a := by decide
  exact H i h

theorem slt_lt (k j : ℕ) (h : j + (k + 1) < 32) : Scalar.cmpi .slt (BitVec.ofNat 32 j) (BitVec.ofNat 32 (j + (k + 1))) = 1#1 := by
  have H : ∀ a < 32, ∀ b < 32, b < a → Scalar.cmpi .slt (BitVec.ofNat 32 b) (BitVec.ofNat 32 a) = 1#1 := by decide
  exact H _ h _ (by omega) (by omega)

theorem slt_self (j : ℕ) (h : j < 32) : Scalar.cmpi .slt (BitVec.ofNat 32 j) (BitVec.ofNat 32 j) = 0#1 := by
  have H : ∀ a < 32, Scalar.cmpi .slt (BitVec.ofNat 32 a) (BitVec.ofNat 32 a) = 0#1 := by decide
  exact H _ h

theorem addi_one (j : ℕ) : Scalar.addi (BitVec.ofNat 32 j) 1#32 = BitVec.ofNat 32 (j + 1) := by
  show BitVec.ofNat 32 j + BitVec.ofNat 32 1 = _
  rw [← BitVec.ofNat_add]

theorem andi_one (a b : BitVec 1) (h : a = 1#1) : Scalar.andi a b = b := by
  subst h; revert b; decide

theorem andi_zero (a b : BitVec 1) (h : a = 0#1) : Scalar.andi a b = 0#1 := by
  subst h; revert b; decide

/-- The counter's check holds while a block is left. -/
theorem chk_of (i : grid0.Coords) (k j : ℕ) (hi : (i 1).val = j + (k + 1)) (h : j + (k + 1) < 32) : k0_chk1 i (BitVec.ofNat 32 j) := by
  have hm : (k0_mult2 i (BitVec.ofNat 32 j)).toNat = 256 * k := by
    rw [← row_eq k j h, ← hi]; rfl
  have hr : ∀ h : Fin 8, ∀ a : Fin 3, (![h.val, 256 * k, 0] : Fin 3 → ℕ) a + S1x256x128.size a ≤ S8x8192x128.size a := by
    intro h a
    fin_cases a
    · show h.val + 1 ≤ 8; omega
    · show 256 * k + 256 ≤ 8192; omega
    · show 0 + 128 ≤ 128; omega
  have e9 : k0_off9 i (BitVec.ofNat 32 j) = ![0, 256 * k, 0] := by
    rw [← row_eq k j h, ← hi]; rfl
  have e10 : k0_off10 i (BitVec.ofNat 32 j) = ![1, 256 * k, 0] := by
    rw [← row_eq k j h, ← hi]; rfl
  have e11 : k0_off11 i (BitVec.ofNat 32 j) = ![2, 256 * k, 0] := by
    rw [← row_eq k j h, ← hi]; rfl
  have e12 : k0_off12 i (BitVec.ofNat 32 j) = ![3, 256 * k, 0] := by
    rw [← row_eq k j h, ← hi]; rfl
  have e13 : k0_off13 i (BitVec.ofNat 32 j) = ![4, 256 * k, 0] := by
    rw [← row_eq k j h, ← hi]; rfl
  have e14 : k0_off14 i (BitVec.ofNat 32 j) = ![5, 256 * k, 0] := by
    rw [← row_eq k j h, ← hi]; rfl
  have e15 : k0_off15 i (BitVec.ofNat 32 j) = ![6, 256 * k, 0] := by
    rw [← row_eq k j h, ← hi]; rfl
  have e16 : k0_off16 i (BitVec.ofNat 32 j) = ![7, 256 * k, 0] := by
    rw [← row_eq k j h, ← hi]; rfl
  unfold k0_chk1
  refine ⟨?_, ?_, ?_, ?_, ?_, ?_, ?_, ?_, ?_⟩
  · rw [hm]; exact ⟨k, rfl⟩
  · rw [e9]; exact hr 0
  · rw [e10]; exact hr 1
  · rw [e11]; exact hr 2
  · rw [e12]; exact hr 3
  · rw [e13]; exact hr 4
  · rw [e14]; exact hr 5
  · rw [e15]; exact hr 6
  · rw [e16]; exact hr 7

theorem off9_eq (i : grid0.Coords) (k j : ℕ) (hi : (i 1).val = j + (k + 1)) (h : j + (k + 1) < 32) :
    k0_off9 i (BitVec.ofNat 32 j) = ![0, 256 * k, 0] := by
  rw [← row_eq k j h, ← hi]; rfl
theorem off10_eq (i : grid0.Coords) (k j : ℕ) (hi : (i 1).val = j + (k + 1)) (h : j + (k + 1) < 32) :
    k0_off10 i (BitVec.ofNat 32 j) = ![1, 256 * k, 0] := by
  rw [← row_eq k j h, ← hi]; rfl
theorem off11_eq (i : grid0.Coords) (k j : ℕ) (hi : (i 1).val = j + (k + 1)) (h : j + (k + 1) < 32) :
    k0_off11 i (BitVec.ofNat 32 j) = ![2, 256 * k, 0] := by
  rw [← row_eq k j h, ← hi]; rfl
theorem off12_eq (i : grid0.Coords) (k j : ℕ) (hi : (i 1).val = j + (k + 1)) (h : j + (k + 1) < 32) :
    k0_off12 i (BitVec.ofNat 32 j) = ![3, 256 * k, 0] := by
  rw [← row_eq k j h, ← hi]; rfl
theorem off13_eq (i : grid0.Coords) (k j : ℕ) (hi : (i 1).val = j + (k + 1)) (h : j + (k + 1) < 32) :
    k0_off13 i (BitVec.ofNat 32 j) = ![4, 256 * k, 0] := by
  rw [← row_eq k j h, ← hi]; rfl
theorem off14_eq (i : grid0.Coords) (k j : ℕ) (hi : (i 1).val = j + (k + 1)) (h : j + (k + 1) < 32) :
    k0_off14 i (BitVec.ofNat 32 j) = ![5, 256 * k, 0] := by
  rw [← row_eq k j h, ← hi]; rfl
theorem off15_eq (i : grid0.Coords) (k j : ℕ) (hi : (i 1).val = j + (k + 1)) (h : j + (k + 1) < 32) :
    k0_off15 i (BitVec.ofNat 32 j) = ![6, 256 * k, 0] := by
  rw [← row_eq k j h, ← hi]; rfl
theorem off16_eq (i : grid0.Coords) (k j : ℕ) (hi : (i 1).val = j + (k + 1)) (h : j + (k + 1) < 32) :
    k0_off16 i (BitVec.ofNat 32 j) = ![7, 256 * k, 0] := by
  rw [← row_eq k j h, ← hi]; rfl

theorem off1_eq (i : grid0.Coords) (h : (i 1).val < 32) : k0_off1 i = ![0, 256 * (i 1).val, 0] := by
  rw [← rowD_eq _ h]; rfl
theorem off2_eq (i : grid0.Coords) (h : (i 1).val < 32) : k0_off2 i = ![1, 256 * (i 1).val, 0] := by
  rw [← rowD_eq _ h]; rfl
theorem off3_eq (i : grid0.Coords) (h : (i 1).val < 32) : k0_off3 i = ![2, 256 * (i 1).val, 0] := by
  rw [← rowD_eq _ h]; rfl
theorem off4_eq (i : grid0.Coords) (h : (i 1).val < 32) : k0_off4 i = ![3, 256 * (i 1).val, 0] := by
  rw [← rowD_eq _ h]; rfl
theorem off5_eq (i : grid0.Coords) (h : (i 1).val < 32) : k0_off5 i = ![4, 256 * (i 1).val, 0] := by
  rw [← rowD_eq _ h]; rfl
theorem off6_eq (i : grid0.Coords) (h : (i 1).val < 32) : k0_off6 i = ![5, 256 * (i 1).val, 0] := by
  rw [← rowD_eq _ h]; rfl
theorem off7_eq (i : grid0.Coords) (h : (i 1).val < 32) : k0_off7 i = ![6, 256 * (i 1).val, 0] := by
  rw [← rowD_eq _ h]; rfl
theorem off8_eq (i : grid0.Coords) (h : (i 1).val < 32) : k0_off8 i = ![7, 256 * (i 1).val, 0] := by
  rw [← rowD_eq _ h]; rfl

/-! ### The label's specification -/

/-- What the label returns: the counter, the flag and the eight heads' states. -/
def pack (r : ℕ × BitVec 1 × (Fin 8 → Head F)) : BitVec 32 × BitVec 1 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 :=
  (BitVec.ofNat 32 r.1, r.2.1, (r.2.2 0).carry, (r.2.2 0).decay, (r.2.2 0).acc, (r.2.2 1).carry, (r.2.2 1).decay, (r.2.2 1).acc, (r.2.2 2).carry, (r.2.2 2).decay, (r.2.2 2).acc, (r.2.2 3).carry, (r.2.2 3).decay, (r.2.2 3).acc, (r.2.2 4).carry, (r.2.2 4).decay, (r.2.2 4).acc, (r.2.2 5).carry, (r.2.2 5).decay, (r.2.2 5).acc, (r.2.2 6).carry, (r.2.2 6).decay, (r.2.2 6).acc, (r.2.2 7).carry, (r.2.2 7).decay, (r.2.2 7).acc)

section Label

variable (c : Dev nD) (i : grid0.Coords)
  (arg2 : Memref sig .tc .vmem S8x256x128 .bf16) (harg2 : arg2.IsWhole) (arg3 : Memref sig .tc .vmem S8x8192x128 .bf16) (harg3 : arg3.IsWhole)
  (arg4 : Memref sig .tc .vmem S8x8192x128 .bf16) (harg4 : arg4.IsWhole)
  (x0 : Vec F S8x256x128 .bf16) (x1 x2 : Vec F S8x8192x128 .bf16) (v1 : FVec F S256x256 .bf16)

/-- The three buffers the label's function reads. -/
def held : sProp 𝕄 :=
  iprop(owns (c : Thread nD τ) arg2 fullShare x0 ∗ owns (c : Thread nD τ) arg3 fullShare x1 ∗ owns (c : Thread nD τ) arg4 fullShare x2)

/-- The label entered at counter `j` with `k` blocks left: it leaves the buffers as they were and returns the state
    after the blocks visited. -/
def spec (k j : ℕ) (a : BitVec 1) (s : Fin 8 → Head F) : sWPT 𝕄 (BitVec 32 × BitVec 1 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) := do
  sWPT.consume (held c arg2 arg3 arg4 x0 x1 x2)
  sWPT.produce (held c arg2 arg3 arg4 x0 x1 x2)
  pure (pack (loopFrom x0 x1 x2 v1 k j a s))

theorem spec_apply (k j : ℕ) (a : BitVec 1) (s : Fin 8 → Head F) (K : (BitVec 32 × BitVec 1 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) → sProp 𝕄) :
    spec c arg2 arg3 arg4 x0 x1 x2 v1 k j a s K
      = iprop(held c arg2 arg3 arg4 x0 x1 x2 ∗ (held c arg2 arg3 arg4 x0 x1 x2 -∗ K (pack (loopFrom x0 x1 x2 v1 k j a s)))) := rfl

/-- The label's argument at counter `j`, flag `a` and states `s`. -/
def rec1 (t : BitVec 32) (a : BitVec 1) (s : Fin 8 → Head F) : Cc0While1 F :=
  ⟨i, arg2, harg2, arg3, harg3, v1, arg4, harg4, t, a, (s 0).carry, (s 0).decay, (s 0).acc, (s 1).carry, (s 1).decay, (s 1).acc, (s 2).carry, (s 2).decay, (s 2).acc, (s 3).carry, (s 3).decay, (s 3).acc, (s 4).carry, (s 4).decay, (s 4).acc, (s 5).carry, (s 5).decay, (s 5).acc, (s 6).carry, (s 6).decay, (s 6).acc, (s 7).carry, (s 7).decay, (s 7).acc⟩

theorem rd_q (m : Memref sig .tc .vmem S8x256x128 .bf16) (h : Fin 8) (off : Fin 3 → Nat) (ho : off = ![h.val, 0, 0])
    (inb : ∀ a, off a + S1x256x128.size a ≤ S8x256x128.size a) (f : m.view.ty.Contents (Elt F)) :
    View.readAt (Elt F) m.view (Rect.unit (s := S8x256x128) off S1x256x128.size inb).toLoadRect f = qBlk (m.view.read (Elt F) f) h :=
  ld_q (m.view.read (Elt F) f) h off ho inb

theorem rd_k (m : Memref sig .tc .vmem S8x8192x128 .bf16) (h : Fin 8) (b : ℕ) (hb : b < 32) (off : Fin 3 → Nat) (ho : off = ![h.val, 256 * b, 0])
    (inb : ∀ a, off a + S1x256x128.size a ≤ S8x8192x128.size a) (f : m.view.ty.Contents (Elt F)) :
    View.readAt (Elt F) m.view (Rect.unit (s := S8x8192x128) off S1x256x128.size inb).toLoadRect f = kBlk (m.view.read (Elt F) f) h b :=
  ld_k (m.view.read (Elt F) f) h b hb off ho inb

/-- A call's argument may be rewritten. -/
theorem call_of {R R' : Cc0While1 F} {E : Set ℕ} {P : sProp 𝕄} {k : ℕ} {K : (BitVec 32 × BitVec 1 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) → sProp 𝕄} (h : R = R')
    (H : P ⊢ wp frame (wpE (defs₀ (F := F)) 𝒱₀ (c : Thread nD τ) (some k)) E (Prog.op (TpuEff.call (1 : (Λ₀ F).Label) R') Prog.ret) K) :
    P ⊢ wp frame (wpE (defs₀ (F := F)) 𝒱₀ (c : Thread nD τ) (some k)) E (Prog.op (TpuEff.call (1 : (Λ₀ F).Label) R) Prog.ret) K := by
  subst h; exact H

set_option maxHeartbeats 1000000 in
theorem spec_le (E : Set ℕ) :
    ∀ k j, (i 1).val = j + k → j + k < 32 → ∀ (a : BitVec 1) (s : Fin 8 → Head F) K, spec c arg2 arg3 arg4 x0 x1 x2 v1 k j a s K
      ⊢ wp frame (wpE (defs₀ (F := F)) 𝒱₀ (c : Thread nD τ) (some k)) E
          (defs₀ (F := F) .tc 1 (rec1 i arg2 harg2 arg3 harg3 arg4 harg4 v1 (BitVec.ofNat 32 j) a s)) K := by
  intro k
  induction k with
  | zero =>
    intro j hj hlt a s K
    rw [spec_apply]
    show _ ⊢ wp frame (wpE (defs₀ (F := F)) 𝒱₀ (c : Thread nD τ) (some 0)) E
      (cc0_while1 i arg2 harg2 arg3 harg3 v1 arg4 harg4 (BitVec.ofNat 32 j) a (s 0).carry (s 0).decay (s 0).acc (s 1).carry (s 1).decay (s 1).acc (s 2).carry (s 2).decay (s 2).acc (s 3).carry (s 3).decay (s 3).acc (s 4).carry (s 4).decay (s 4).acc (s 5).carry (s 5).decay (s 5).acc (s 6).carry (s 6).decay (s 6).acc (s 7).carry (s 7).decay (s 7).acc) K
    simp only [cc0_while1_eq_skeleton]; unfold cc0_while1_skel
    have htest : ¬Scalar.andi (Scalar.cmpi .slt (BitVec.ofNat 32 j) (BitVec.ofNat 32 (i 1).val)) a = 1#1 := by
      rw [hj, Nat.add_zero, andi_zero _ _ (slt_self j (by omega))]; decide
    simp only [htest, ↓reduceIte, Prog.pure_eq_ret]
    rw [show pack (loopFrom x0 x1 x2 v1 0 j a s) = (BitVec.ofNat 32 j, a, (s 0).carry, (s 0).decay, (s 0).acc, (s 1).carry, (s 1).decay, (s 1).acc, (s 2).carry, (s 2).decay, (s 2).acc, (s 3).carry, (s 3).decay, (s 3).acc, (s 4).carry, (s 4).decay, (s 4).acc, (s 5).carry, (s 5).decay, (s 5).acc, (s 6).carry, (s 6).decay, (s 6).acc, (s 7).carry, (s 7).decay, (s 7).acc) from rfl]
    iintro ⟨H, Hk⟩
    rw [wp_ret]; imodintro
    iapply Hk
    iexact H
  | succ k ih =>
    intro j hj hlt a s K
    rw [spec_apply]
    show _ ⊢ wp frame (wpE (defs₀ (F := F)) 𝒱₀ (c : Thread nD τ) (some (k + 1))) E
      (cc0_while1 i arg2 harg2 arg3 harg3 v1 arg4 harg4 (BitVec.ofNat 32 j) a (s 0).carry (s 0).decay (s 0).acc (s 1).carry (s 1).decay (s 1).acc (s 2).carry (s 2).decay (s 2).acc (s 3).carry (s 3).decay (s 3).acc (s 4).carry (s 4).decay (s 4).acc (s 5).carry (s 5).decay (s 5).acc (s 6).carry (s 6).decay (s 6).acc (s 7).carry (s 7).decay (s 7).acc) K
    simp only [cc0_while1_eq_skeleton]; unfold cc0_while1_skel
    by_cases ha : a = 1#1
    · have htest : Scalar.andi (Scalar.cmpi .slt (BitVec.ofNat 32 j) (BitVec.ofNat 32 (i 1).val)) a = 1#1 := by
        rw [hj, andi_one _ _ (slt_lt k j hlt)]; exact ha
      have hk : k < 32 := by omega
      have hchk := chk_of i k j hj hlt
      simp only [htest, ↓reduceIte]
      rw [show loopFrom x0 x1 x2 v1 (k + 1) j a s = loopFrom x0 x1 x2 v1 k (j + 1) (alive (loopState x0 x1 x2 v1 k s)) (loopState x0 x1 x2 v1 k s) from by
        rw [loopFrom, if_pos ha]]
      unfold held owns
      iintro ⟨⟨⟨%f0, %hf0, H0⟩, ⟨%f1, %hf1, H1⟩, ⟨%f2, %hf2, H2⟩⟩, Hk⟩
      subst hf0 hf1 hf2
      sl_exec
      refine call_of c (R' := rec1 i arg2 harg2 arg3 harg3 arg4 harg4 v1 (BitVec.ofNat 32 (j + 1)) (alive (loopState (arg2.view.read (Elt F) f0) (arg3.view.read (Elt F) f1) (arg4.view.read (Elt F) f2) v1 k s)) (loopState (arg2.view.read (Elt F) f0) (arg3.view.read (Elt F) f1) (arg4.view.read (Elt F) f2) v1 k s)) ?_ ?_
      · clear ih
        delta spec_le.sl.r spec_le.sl.r_1 spec_le.sl.r_2 spec_le.sl.r_3 spec_le.sl.r_4 spec_le.sl.r_5 spec_le.sl.r_6 spec_le.sl.r_7 spec_le.sl.r_8 spec_le.sl.r_9 spec_le.sl.r_10 spec_le.sl.r_11 spec_le.sl.r_12 spec_le.sl.r_13 spec_le.sl.r_14 spec_le.sl.r_15 spec_le.sl.r_16 spec_le.sl.r_17 spec_le.sl.r_18 spec_le.sl.r_19 spec_le.sl.r_20 spec_le.sl.r_21 spec_le.sl.r_22 spec_le.sl.r_23 spec_le.sl.r_24 spec_le.sl.r_25 spec_le.sl.r_26 spec_le.sl.r_27 spec_le.sl.r_28 spec_le.sl.r_29 spec_le.sl.r_30 spec_le.sl.r_31 spec_le.sl.r_32 spec_le.sl.r_33 spec_le.sl.r_34 spec_le.sl.r_35 spec_le.sl.r_36 spec_le.sl.r_37 spec_le.sl.r_38 spec_le.sl.r_39 spec_le.sl.r_40 spec_le.sl.r_41 spec_le.sl.r_42 spec_le.sl.r_43 spec_le.sl.r_44 spec_le.sl.r_45 spec_le.sl.r_46 spec_le.sl.r_47 spec_le.sl.r_48 spec_le.sl.r_49 spec_le.sl.r_50 spec_le.sl.v727 spec_le.sl.cst_247 spec_le.sl.cst_273
        simp only [addi_one, rd_q arg2 0 ![0, 0, 0] rfl, rd_q arg2 1 ![1, 0, 0] rfl, rd_q arg2 2 ![2, 0, 0] rfl, rd_q arg2 3 ![3, 0, 0] rfl, rd_q arg2 4 ![4, 0, 0] rfl, rd_q arg2 5 ![5, 0, 0] rfl, rd_q arg2 6 ![6, 0, 0] rfl, rd_q arg2 7 ![7, 0, 0] rfl, rd_k arg3 0 k hk _ (off9_eq i k j hj hlt), rd_k arg4 0 k hk _ (off9_eq i k j hj hlt), rd_k arg3 1 k hk _ (off10_eq i k j hj hlt), rd_k arg4 1 k hk _ (off10_eq i k j hj hlt), rd_k arg3 2 k hk _ (off11_eq i k j hj hlt), rd_k arg4 2 k hk _ (off11_eq i k j hj hlt), rd_k arg3 3 k hk _ (off12_eq i k j hj hlt), rd_k arg4 3 k hk _ (off12_eq i k j hj hlt), rd_k arg3 4 k hk _ (off13_eq i k j hj hlt), rd_k arg4 4 k hk _ (off13_eq i k j hj hlt), rd_k arg3 5 k hk _ (off14_eq i k j hj hlt), rd_k arg4 5 k hk _ (off14_eq i k j hj hlt), rd_k arg3 6 k hk _ (off15_eq i k j hj hlt), rd_k arg4 6 k hk _ (off15_eq i k j hj hlt), rd_k arg3 7 k hk _ (off16_eq i k j hj hlt), rd_k arg4 7 k hk _ (off16_eq i k j hj hlt)]
        simp only [z67, z68, z69, z70, z73, z74, z75, z71, ca93, ca96, ca99, ca104, ca107, ca110, ca113, ca117, de94, de97, de100, de105, de108, de111, de114, de118, cl78, cl79, cl80, cl83, cl87, cl82, cl86, cl92, al95, al98, al101, al109, al112, al115, al106, al119, mx120]
        unfold rec1
        simp only [loopState, loopHead, alive, zT]
      · iintro ⟨⟨⟨H0, H1⟩, H2⟩, Hk⟩
        iapply (wp_call_spec 𝒱₀ (c : Thread nD τ) (some (k + 1)) E (spec c arg2 arg3 arg4 (arg2.view.read (Elt F) f0) (arg3.view.read (Elt F) f1) (arg4.view.read (Elt F) f2) v1 k (j + 1)
            (alive (loopState (arg2.view.read (Elt F) f0) (arg3.view.read (Elt F) f1) (arg4.view.read (Elt F) f2) v1 k s)) (loopState (arg2.view.read (Elt F) f0) (arg3.view.read (Elt F) f1) (arg4.view.read (Elt F) f2) v1 k s)) k
          (fun u hu => by cases hu; exact Nat.lt_succ_self k) (ih (j + 1) (by omega) (by omega) _ _))
        rw [spec_apply]; unfold held owns
        isplitl [H0 H1 H2]
        · isplitl [H0]
          · iexists f0; isplitr; · ipureintro; rfl
            iexact H0
          isplitl [H1]
          · iexists f1; isplitr; · ipureintro; rfl
            iexact H1
          iexists f2; isplitr; · ipureintro; rfl
          iexact H2
        iintro H
        rw [wp_ret]; imodintro
        iapply Hk
        iexact H
    · have htest : ¬Scalar.andi (Scalar.cmpi .slt (BitVec.ofNat 32 j) (BitVec.ofNat 32 (i 1).val)) a = 1#1 := by
        rw [hj, andi_one _ _ (slt_lt k j hlt)]; exact ha
      simp only [htest, ↓reduceIte, Prog.pure_eq_ret]
      rw [show pack (loopFrom x0 x1 x2 v1 (k + 1) j a s) = (BitVec.ofNat 32 j, a, (s 0).carry, (s 0).decay, (s 0).acc, (s 1).carry, (s 1).decay, (s 1).acc, (s 2).carry, (s 2).decay, (s 2).acc, (s 3).carry, (s 3).decay, (s 3).acc, (s 4).carry, (s 4).decay, (s 4).acc, (s 5).carry, (s 5).decay, (s 5).acc, (s 6).carry, (s 6).decay, (s 6).acc, (s 7).carry, (s 7).decay, (s 7).acc) from by
        rw [loopFrom, if_neg ha]; rfl]
      iintro ⟨H, Hk⟩
      rw [wp_ret]; imodintro
      iapply Hk
      iexact H

end Label

end Cert.KernelIdeal.SB

end
-- ==== Proof.SB.Body.lean ====
/-
  The kernel's body at a grid point: on the buffers holding the point's blocks it runs the diagonal block, calls the loop's
  label, and stores the eight heads' gathered values.
-/
module

public import proofs.«01_k».proof.Proof.SB.Loop

@[expose] public section

set_option maxRecDepth 65536

noncomputable section

namespace Cert.KernelIdeal.SB

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole of the triangular factor's block. -/
abbrev rTri : Rect S256x256 := Rect.unit (s := S256x256) ![0, 0] S256x256.size inb_S256x256_S256x256_0_0
abbrev rO0 : Rect S8x256x128 := Rect.unit (s := S8x256x128) ![0, 0, 0] S1x256x128.size inb_S8x256x128_S1x256x128_0_0_0
abbrev rO1 : Rect S8x256x128 := Rect.unit (s := S8x256x128) ![1, 0, 0] S1x256x128.size inb_S8x256x128_S1x256x128_1_0_0
abbrev rO2 : Rect S8x256x128 := Rect.unit (s := S8x256x128) ![2, 0, 0] S1x256x128.size inb_S8x256x128_S1x256x128_2_0_0
abbrev rO3 : Rect S8x256x128 := Rect.unit (s := S8x256x128) ![3, 0, 0] S1x256x128.size inb_S8x256x128_S1x256x128_3_0_0
abbrev rO4 : Rect S8x256x128 := Rect.unit (s := S8x256x128) ![4, 0, 0] S1x256x128.size inb_S8x256x128_S1x256x128_4_0_0
abbrev rO5 : Rect S8x256x128 := Rect.unit (s := S8x256x128) ![5, 0, 0] S1x256x128.size inb_S8x256x128_S1x256x128_5_0_0
abbrev rO6 : Rect S8x256x128 := Rect.unit (s := S8x256x128) ![6, 0, 0] S1x256x128.size inb_S8x256x128_S1x256x128_6_0_0
abbrev rO7 : Rect S8x256x128 := Rect.unit (s := S8x256x128) ![7, 0, 0] S1x256x128.size inb_S8x256x128_S1x256x128_7_0_0

/-- The eight heads' states after all blocks, at the point whose diagonal block is `b`. -/
def finalState (x0 : Vec F S8x256x128 .bf16) (x1 x2 : Vec F S8x8192x128 .bf16) (x3 : Vec F S256x256 .bf16) (b : ℕ) : Fin 8 → Head F :=
  (loopFrom x0 x1 x2 (k0_pay2 (View.ld x3 rTri)) b 0 (alive (diagState x0 x1 x2 (k0_pay2 (View.ld x3 rTri)) b))
    (diagState x0 x1 x2 (k0_pay2 (View.ld x3 rTri)) b)).2.2

/-- The output block: the eight heads' gathered values, one store each. -/
def out0 (i : grid0.Coords) (x0 : Vec F S8x256x128 .bf16) (x1 x2 : Vec F S8x8192x128 .bf16) (x3 : Vec F S256x256 .bf16) : Vec F S8x256x128 .bf16 :=
  View.canon [⟨rO7, outT (finalState x0 x1 x2 x3 (i 1).val 7).acc⟩, ⟨rO6, outT (finalState x0 x1 x2 x3 (i 1).val 6).acc⟩, ⟨rO5, outT (finalState x0 x1 x2 x3 (i 1).val 5).acc⟩, ⟨rO4, outT (finalState x0 x1 x2 x3 (i 1).val 4).acc⟩, ⟨rO3, outT (finalState x0 x1 x2 x3 (i 1).val 3).acc⟩, ⟨rO2, outT (finalState x0 x1 x2 x3 (i 1).val 2).acc⟩, ⟨rO1, outT (finalState x0 x1 x2 x3 (i 1).val 1).acc⟩, ⟨rO0, outT (finalState x0 x1 x2 x3 (i 1).val 0).acc⟩]

theorem cover0 (p0 p1 p2 p3 p4 p5 p6 p7 : Vec F S1x256x128 .bf16) (y : S8x256x128.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S8x256x128 .bf16)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S1x256x128.size (by rfl) y

theorem rd_tri (m : Memref sig .tc .vmem S256x256 .bf16) (f : m.view.ty.Contents (Elt F)) :
    View.readAt (Elt F) m.view (Rect.unit (s := S256x256) ![0, 0] ![256, 256] inb_S256x256_S256x256_0_0).toLoadRect f = View.ld (m.view.read (Elt F) f) rTri := rfl

/-- A call's argument may be rewritten, whatever follows it. -/
theorem call_of' (c : Dev nD) {α : Type} {R R' : Cc0While1 F} {E : Set ℕ} {P : sProp 𝕄}
    {k : (Λ₀ F).Result (1 : (Λ₀ F).Label) → Prog (TpuEff nD τ sig (Elt F) (Λ₀ F) .tc) α} {Q : α → sProp 𝕄} (h : R = R')
    (H : P ⊢ wp frame (wpE (defs₀ (F := F)) 𝒱₀ (c : Thread nD τ) none) E (Prog.op (TpuEff.call (1 : (Λ₀ F).Label) R') k) Q) :
    P ⊢ wp frame (wpE (defs₀ (F := F)) 𝒱₀ (c : Thread nD τ) none) E (Prog.op (TpuEff.call (1 : (Λ₀ F).Label) R) k) Q := by
  subst h; exact H

set_option maxHeartbeats 1000000 in
theorem sound_kernel (c : Dev nD) (i : grid0.Coords) (arg2 : Memref sig .tc .vmem S8x256x128 .bf16) (harg2 : arg2.IsWhole) (arg3 : Memref sig .tc .vmem S8x8192x128 .bf16) (harg3 : arg3.IsWhole) (arg4 : Memref sig .tc .vmem S8x8192x128 .bf16) (harg4 : arg4.IsWhole) (arg5 : Memref sig .tc .vmem S256x256 .bf16) (harg5 : arg5.IsWhole) (arg6 : Memref sig .tc .vmem S8x256x128 .bf16) (harg6 : arg6.IsWhole)
    (x0 : Vec F S8x256x128 .bf16) (x1 : Vec F S8x8192x128 .bf16) (x2 : Vec F S8x8192x128 .bf16) (x3 : Vec F S256x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0 i x0 x1 x2 x3)) -∗ K ⟨⟩))
      ⊢ wp frame (wpE (defs₀ (F := F)) 𝒱₀ c none) Set.univ (cc0_sb_attn i arg2 harg2 arg3 harg3 arg4 harg4 arg5 harg5 arg6 harg6) K := by
  have hi : (i 1).val < 32 := (i 1).isLt
  simp only [cc0_sb_attn_eq_skeleton]; unfold cc0_sb_attn_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  refine call_of' c (R' := rec1 i arg2 harg2 arg3 harg3 arg4 harg4 (k0_pay2 (View.ld (arg5.view.read (Elt F) f3) rTri)) (BitVec.ofNat 32 0)
    (alive (diagState (arg2.view.read (Elt F) f0) (arg3.view.read (Elt F) f1) (arg4.view.read (Elt F) f2) (k0_pay2 (View.ld (arg5.view.read (Elt F) f3) rTri)) (i 1).val))
    (diagState (arg2.view.read (Elt F) f0) (arg3.view.read (Elt F) f1) (arg4.view.read (Elt F) f2) (k0_pay2 (View.ld (arg5.view.read (Elt F) f3) rTri)) (i 1).val)) ?_ ?_
  · delta sound_kernel.sl.r sound_kernel.sl.r_1 sound_kernel.sl.r_2 sound_kernel.sl.r_3 sound_kernel.sl.r_4 sound_kernel.sl.r_5 sound_kernel.sl.r_6 sound_kernel.sl.r_7 sound_kernel.sl.r_8 sound_kernel.sl.r_9 sound_kernel.sl.r_10 sound_kernel.sl.r_11 sound_kernel.sl.r_12 sound_kernel.sl.r_13 sound_kernel.sl.r_14 sound_kernel.sl.r_15 sound_kernel.sl.r_16 sound_kernel.sl.r_17 sound_kernel.sl.r_18 sound_kernel.sl.r_19 sound_kernel.sl.r_20 sound_kernel.sl.r_21 sound_kernel.sl.r_22 sound_kernel.sl.r_23 sound_kernel.sl.r_24 sound_kernel.sl.r_25 sound_kernel.sl.r_26 sound_kernel.sl.r_27 sound_kernel.sl.r_28 sound_kernel.sl.r_29 sound_kernel.sl.r_30 sound_kernel.sl.r_31 sound_kernel.sl.r_32 sound_kernel.sl.r_33 sound_kernel.sl.r_34 sound_kernel.sl.r_35 sound_kernel.sl.r_36 sound_kernel.sl.r_37 sound_kernel.sl.r_38 sound_kernel.sl.r_39 sound_kernel.sl.r_40 sound_kernel.sl.r_41 sound_kernel.sl.r_42 sound_kernel.sl.r_43 sound_kernel.sl.r_44 sound_kernel.sl.r_45 sound_kernel.sl.r_46 sound_kernel.sl.r_47 sound_kernel.sl.r_48 sound_kernel.sl.r_49 sound_kernel.sl.r_50 sound_kernel.sl.r_51 sound_kernel.sl.v385 sound_kernel.sl.cst_104
    simp only [rd_tri, rd_q arg2 0 ![0, 0, 0] rfl, rd_q arg2 1 ![1, 0, 0] rfl, rd_q arg2 2 ![2, 0, 0] rfl, rd_q arg2 3 ![3, 0, 0] rfl, rd_q arg2 4 ![4, 0, 0] rfl, rd_q arg2 5 ![5, 0, 0] rfl, rd_q arg2 6 ![6, 0, 0] rfl, rd_q arg2 7 ![7, 0, 0] rfl, rd_k arg3 0 (i 1).val hi _ (off1_eq i hi), rd_k arg4 0 (i 1).val hi _ (off1_eq i hi), rd_k arg3 1 (i 1).val hi _ (off2_eq i hi), rd_k arg4 1 (i 1).val hi _ (off2_eq i hi), rd_k arg3 2 (i 1).val hi _ (off3_eq i hi), rd_k arg4 2 (i 1).val hi _ (off3_eq i hi), rd_k arg3 3 (i 1).val hi _ (off4_eq i hi), rd_k arg4 3 (i 1).val hi _ (off4_eq i hi), rd_k arg3 4 (i 1).val hi _ (off5_eq i hi), rd_k arg4 4 (i 1).val hi _ (off5_eq i hi), rd_k arg3 5 (i 1).val hi _ (off6_eq i hi), rd_k arg4 5 (i 1).val hi _ (off6_eq i hi), rd_k arg3 6 (i 1).val hi _ (off7_eq i hi), rd_k arg4 6 (i 1).val hi _ (off7_eq i hi), rd_k arg3 7 (i 1).val hi _ (off8_eq i hi), rd_k arg4 7 (i 1).val hi _ (off8_eq i hi)]
    simp only [z7, z8, z11, z12, z13, z14, z9, z6, cd17, cd18, cd22, cd26, cd30, cd21, cd25, cd29, ca31, ca35, ca38, ca41, ca45, ca48, ca51, ca55, de32, de36, de39, de42, de46, de49, de52, de56, ad33, ad40, ad43, ad50, ad53, ad37, ad47, ad57, mx58, o60, o61, o62, o63, o64, o65, o59, o66]
    unfold rec1
    simp only [diagState, diagHead, alive, zT]
  · iintro ⟨⟨⟨⟨⟨H0, H1⟩, H2⟩, H3⟩, H4⟩, Hk⟩
    iapply (wp_call_spec 𝒱₀ (c : Thread nD τ) none Set.univ (spec c arg2 arg3 arg4 (arg2.view.read (Elt F) f0) (arg3.view.read (Elt F) f1) (arg4.view.read (Elt F) f2) (k0_pay2 (View.ld (arg5.view.read (Elt F) f3) rTri)) (i 1).val 0
        (alive (diagState (arg2.view.read (Elt F) f0) (arg3.view.read (Elt F) f1) (arg4.view.read (Elt F) f2) (k0_pay2 (View.ld (arg5.view.read (Elt F) f3) rTri)) (i 1).val)) (diagState (arg2.view.read (Elt F) f0) (arg3.view.read (Elt F) f1) (arg4.view.read (Elt F) f2) (k0_pay2 (View.ld (arg5.view.read (Elt F) f3) rTri)) (i 1).val)) (i 1).val
      (fun u hu => nomatch hu) (spec_le c i arg2 harg2 arg3 harg3 arg4 harg4 (arg2.view.read (Elt F) f0) (arg3.view.read (Elt F) f1) (arg4.view.read (Elt F) f2) (k0_pay2 (View.ld (arg5.view.read (Elt F) f3) rTri)) Set.univ (i 1).val 0 (by omega) (by omega) _ _))
    rw [spec_apply]; unfold held owns
    isplitl [H0 H1 H2]
    · isplitl [H0]
      · iexists f0; isplitr; · ipureintro; rfl
        iexact H0
      isplitl [H1]
      · iexists f1; isplitr; · ipureintro; rfl
        iexact H1
      iexists f2; isplitr; · ipureintro; rfl
      iexact H2
    iintro ⟨⟨%f0', %h0, H0⟩, ⟨%f1', %h1, H1⟩, ⟨%f2', %h2, H2⟩⟩
    rw [show (loopFrom (arg2.view.read (Elt F) f0) (arg3.view.read (Elt F) f1) (arg4.view.read (Elt F) f2) (k0_pay2 (View.ld (arg5.view.read (Elt F) f3) rTri)) (i 1).val 0 (alive (diagState (arg2.view.read (Elt F) f0) (arg3.view.read (Elt F) f1) (arg4.view.read (Elt F) f2) (k0_pay2 (View.ld (arg5.view.read (Elt F) f3) rTri)) (i 1).val)) (diagState (arg2.view.read (Elt F) f0) (arg3.view.read (Elt F) f1) (arg4.view.read (Elt F) f2) (k0_pay2 (View.ld (arg5.view.read (Elt F) f3) rTri)) (i 1).val)) = ((loopFrom (arg2.view.read (Elt F) f0) (arg3.view.read (Elt F) f1) (arg4.view.read (Elt F) f2) (k0_pay2 (View.ld (arg5.view.read (Elt F) f3) rTri)) (i 1).val 0 (alive (diagState (arg2.view.read (Elt F) f0) (arg3.view.read (Elt F) f1) (arg4.view.read (Elt F) f2) (k0_pay2 (View.ld (arg5.view.read (Elt F) f3) rTri)) (i 1).val)) (diagState (arg2.view.read (Elt F) f0) (arg3.view.read (Elt F) f1) (arg4.view.read (Elt F) f2) (k0_pay2 (View.ld (arg5.view.read (Elt F) f3) rTri)) (i 1).val)).1, (loopFrom (arg2.view.read (Elt F) f0) (arg3.view.read (Elt F) f1) (arg4.view.read (Elt F) f2) (k0_pay2 (View.ld (arg5.view.read (Elt F) f3) rTri)) (i 1).val 0 (alive (diagState (arg2.view.read (Elt F) f0) (arg3.view.read (Elt F) f1) (arg4.view.read (Elt F) f2) (k0_pay2 (View.ld (arg5.view.read (Elt F) f3) rTri)) (i 1).val)) (diagState (arg2.view.read (Elt F) f0) (arg3.view.read (Elt F) f1) (arg4.view.read (Elt F) f2) (k0_pay2 (View.ld (arg5.view.read (Elt F) f3) rTri)) (i 1).val)).2.1, finalState (arg2.view.read (Elt F) f0) (arg3.view.read (Elt F) f1) (arg4.view.read (Elt F) f2) (arg5.view.read (Elt F) f3) (i 1).val) from rfl]
    generalize hS : finalState (arg2.view.read (Elt F) f0) (arg3.view.read (Elt F) f1) (arg4.view.read (Elt F) f2) (arg5.view.read (Elt F) f3) (i 1).val = S
    generalize (loopFrom (arg2.view.read (Elt F) f0) (arg3.view.read (Elt F) f1) (arg4.view.read (Elt F) f2) (k0_pay2 (View.ld (arg5.view.read (Elt F) f3) rTri)) (i 1).val 0 (alive (diagState (arg2.view.read (Elt F) f0) (arg3.view.read (Elt F) f1) (arg4.view.read (Elt F) f2) (k0_pay2 (View.ld (arg5.view.read (Elt F) f3) rTri)) (i 1).val)) (diagState (arg2.view.read (Elt F) f0) (arg3.view.read (Elt F) f1) (arg4.view.read (Elt F) f2) (k0_pay2 (View.ld (arg5.view.read (Elt F) f3) rTri)) (i 1).val)).1 = t1
    generalize (loopFrom (arg2.view.read (Elt F) f0) (arg3.view.read (Elt F) f1) (arg4.view.read (Elt F) f2) (k0_pay2 (View.ld (arg5.view.read (Elt F) f3) rTri)) (i 1).val 0 (alive (diagState (arg2.view.read (Elt F) f0) (arg3.view.read (Elt F) f1) (arg4.view.read (Elt F) f2) (k0_pay2 (View.ld (arg5.view.read (Elt F) f3) rTri)) (i 1).val)) (diagState (arg2.view.read (Elt F) f0) (arg3.view.read (Elt F) f1) (arg4.view.read (Elt F) f2) (k0_pay2 (View.ld (arg5.view.read (Elt F) f3) rTri)) (i 1).val)).2.1 = t2
    unfold pack
    dsimp only
    sl_exec
    sl_step
    iapply Hk
    isplitl [H0]
    · iexists f0'; isplitr; · ipureintro; exact h0
      iexact H0
    isplitl [H1]
    · iexists f1'; isplitr; · ipureintro; exact h1
      iexact H1
    isplitl [H2]
    · iexists f2'; isplitr; · ipureintro; exact h2
      iexact H2
    isplitl [H3]
    · iexists f3; isplitr; · ipureintro; rfl
      iexact H3
    iexists _; isplitr
    swap; · iexact H4
    ipureintro
    subst hS
    delta sound_kernel.sl.r_52
    simp only [o59, o60, o61, o62, o63, o64, o65, o66]
    exact View.read_writes_eq_canon _ _ _ (cover0 _ _ _ _ _ _ _ _)

end Cert.KernelIdeal.SB

end
-- ==== Proof.SB.Launch.lean ====
/-
  The run of the whole program: the host lines before the kernel, the kernel at every grid point (the body's triple), the
  host lines after it; from it the frame, over any values.
-/
module

public import proofs.«01_k».proof.Proof.Gen.KernelIdeal.Launch
public import proofs.«01_k».proof.Proof.Gen.KernelIdeal.Points
public import proofs.«01_k».proof.Proof.SB.Body
public import Idealize.ShloMosaic.Lib.Pipeline.FrameSuffix
public import Idealize.ShloMosaic.Lib.Claim
public import Idealize.ShloMosaic.Lib.Ring

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`). -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (V' : Variants) : Pipeline.HMainK (Ix := Unit) (Name := ℕ) (U := UR sig nD τ) (Lvl := ℕ) (cfgs (F := F)) 0 defs₀ V' m (main (F := F)) (V m)
      (fun _ => Pipeline.chain ([hostOps1].map StableHlo.seq)) :=
  Pipeline.hmain_around (cfgs (F := F)) 0 defs₀ V' m main [hostOps0, hostOps0_1, hostOps0_2, hostOps0_3, hostOps0_4, hostOps0_5, hostOps0_6, hostOps0_7, hostOps0_8] [hostOps1] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch₀0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The window's staging buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The window's staging buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The window's staging buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The window's staging buffer holds its block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end as they began, from a run of the pipeline. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c)),
      (((h c).2 main_arg2 (Pipeline.mem_restRefs_of main_arg2 (by decide) (by exact (by decide : ∀ w, Pipeline.arrRef spec0 w ≠ main_arg2)))).trans (W_main_arg2 m dats c))⟩) h

/-! ## The pipeline's proof data -/

/-- The proof data: each input's buffer at its block, the output's at `out0` of the blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0 (grid0.coords t) (iblk m c 0 t) (iblk m c 1 t) (iblk m c 2 t) (iblk m c 3 t)
  Φ _ := Pipeline.ΦA spec0 c
  q w := Pipeline.shareOf spec0 w
  owed _ := 0

/-- The proof data's arrays are the contents on entry. -/
theorem A_eq (c : Dev nD) (w : Fin (cfg0 (F := F)).W) : (dats m 0 c).A w = V m c (Pipeline.arrRef spec0 w) := by
  dsimp only [dats]

/-- What the body leaves, window by window. -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
attribute [local irreducible] out0 in
theorem after0_4 (c : Dev nD) (t : Fin (cfg0 (F := F)).N) : (dats m 0 c).after 4 t = out0 (grid0.coords t) (iblk m c 0 t) (iblk m c 1 t) (iblk m c 2 t) (iblk m c 3 t) := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

-- `θ_run_frame_around_shared`'s implicit arguments are found by unifying its conclusion with this one, which takes unfolding plain
-- definitions in a metavariable's type
set_option backward.isDefEq.respectTransparency.types false in
set_option maxHeartbeats 800000 in
/-- The run, and every semaphore counter at zero at its end. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around_shared (Q' := _) (cfgs (F := F)) (dats m) (0 : Fin 1) launch₀0 defs₀ 𝒱₀ m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The run to the pipeline's post. -/
theorem run_main : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.SB

end
-- ==== Proof.SB.Frames.lean ====
/-
  The frames: the kernel's at the machine's bits, the ideal kernel's, and the reference's.
-/
module

public import proofs.«01_k».proof.Defs
public import proofs.«01_k».proof.Proof.SB.Launch
public import proofs.«01_k».proof.Proof.KB.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.SB

open Idealize.ShloMosaic Idealize.SL.Sem

/-- The kernel's frame. -/
theorem frame_kernel : Cert.quiescent_Kernel := fun m ρ _ => Cert.Kernel.SB.frame (F := Bits) m ρ

/-- The ideal kernel's frame. -/
theorem frame_ideal : Cert.quiescent_KernelIdeal := fun m ρ _ => Cert.KernelIdeal.SB.frame m ρ

/-- The reference's frame: a program of host lines has no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

end Cert.SB

end
-- ==== Proof.Val.Math.lean ====
/-
  Stick-breaking weights over the extended reals: the logarithm of the stick that a key leaves, the sums of those logarithms, and the
  equation between the weights taken block by block (each block's own suffix sums, the earlier blocks' shortening afterwards) and
  the weights taken from one suffix sum over the whole row.
-/
module

public import Idealize.ShloMosaic.PureOps.Ideal
public import Idealize.ShloMosaic.PureOps.Ideal.Laws
public import Mathlib.Algebra.BigOperators.Intervals
public import Mathlib.Tactic.NormNum
public import Mathlib.Tactic.Linarith
public import Mathlib.Tactic.Positivity
public import Mathlib.Tactic.Ring

@[expose] public section

noncomputable section

namespace Cert.Val

open Idealize.ShloMosaic Finset
open scoped BigOperators

/-! ### The two logarithms -/

/-- The softplus of `y`, as the plain text computes it: `max y 0 + log (1 + exp (-|y - 0|))`. -/
def sp (y : EReal) : EReal := max y 0 + Ideal.log (1 + Ideal.exp (-(max (y - 0) (-(y - 0)))))

/-- The logarithm of the stick that a key with score `z` leaves: `min (-z) 0 - log (1 + exp (-|z|))`. -/
def lg (z : EReal) : EReal := min (0 - z) 0 - Ideal.log (1 + Ideal.exp (0 - max z (-z)))

/-- The logarithm of the part of the stick that the key takes. -/
def ls (z : EReal) : EReal := -sp (-z)

theorem exp_coe (r : ℝ) : Ideal.exp (r : EReal) = ((Real.exp r : ℝ) : EReal) := rfl
theorem exp_bot : Ideal.exp ⊥ = 0 := rfl
theorem exp_top : Ideal.exp ⊤ = ⊤ := rfl

theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem log_one_add_exp (r : ℝ) : Ideal.log (1 + Ideal.exp (r : EReal)) = ((Real.log (1 + Real.exp r) : ℝ) : EReal) := by
  rw [exp_coe, show (1 : EReal) = ((1 : ℝ) : EReal) from rfl, ← EReal.coe_add, log_coe (by positivity)]

theorem log_one : Ideal.log (1 + 0) = 0 := by
  rw [add_zero, show (1 : EReal) = ((1 : ℝ) : EReal) from rfl, log_coe one_pos, Real.log_one, EReal.coe_zero]

theorem sp_coe (r : ℝ) : sp (r : EReal) = ((max r 0 + Real.log (1 + Real.exp (-|r|)) : ℝ) : EReal) := by
  unfold sp
  rw [sub_zero, ← EReal.coe_neg, ← coe_max', ← EReal.coe_neg, log_one_add_exp, ← EReal.coe_zero, ← coe_max',
    ← EReal.coe_add]
  rfl

theorem sp_top : sp ⊤ = ⊤ := by
  unfold sp; simp only [sub_zero, EReal.neg_top, max_eq_left bot_le, exp_bot, log_one]
  simp

theorem sp_bot : sp ⊥ = 0 := by
  unfold sp; simp only [sub_zero, EReal.neg_bot, max_eq_right bot_le, EReal.neg_top, exp_bot, log_one]
  simp

theorem lg_coe (r : ℝ) : lg (r : EReal) = ((min (-r) 0 - Real.log (1 + Real.exp (-|r|)) : ℝ) : EReal) := by
  unfold lg
  rw [zero_sub, zero_sub, ← EReal.coe_neg, ← coe_max', ← EReal.coe_neg, log_one_add_exp, ← EReal.coe_zero, ← coe_min',
    ← EReal.coe_sub]
  rfl

theorem lg_top : lg ⊤ = ⊥ := by
  unfold lg; simp only [zero_sub, EReal.neg_top, max_eq_left bot_le, min_eq_left bot_le, exp_bot, log_one]
  simp

theorem lg_bot : lg ⊥ = 0 := by
  unfold lg; simp only [zero_sub, EReal.neg_bot, max_eq_right bot_le, EReal.neg_top, exp_bot, log_one]
  simp

/-- The stick's logarithm is the negated softplus. -/
theorem lg_eq (z : EReal) : lg z = -sp z := by
  induction z using EReal.rec with
  | bot => rw [lg_bot, sp_bot, neg_zero]
  | top => rw [lg_top, sp_top, EReal.neg_top]
  | coe r =>
    rw [lg_coe, sp_coe, ← EReal.coe_neg]
    congr 1
    have : min (-r) 0 = -(max r 0) := by rw [← neg_zero, min_neg_neg, neg_zero]
    rw [this]; ring

theorem sp_nonneg (y : EReal) : 0 ≤ sp y := by
  induction y using EReal.rec with
  | bot => rw [sp_bot]
  | top => rw [sp_top]; exact le_top
  | coe r =>
    rw [sp_coe]
    refine EReal.coe_nonneg.mpr (add_nonneg (le_max_right _ _) (Real.log_nonneg ?_))
    have := Real.exp_pos (-|r|); linarith

theorem lg_le (z : EReal) : lg z ≤ 0 := by
  rw [lg_eq]
  have := sp_nonneg z
  rw [← neg_zero]; exact EReal.neg_le_neg_iff.mpr this

/-- A finite score plus the stick's logarithm is the taken part's logarithm. -/
theorem add_lg (r : ℝ) : (r : EReal) + lg r = ls r := by
  unfold ls
  rw [lg_coe, ← EReal.coe_neg, sp_coe, ← EReal.coe_add, ← EReal.coe_neg, abs_neg]
  congr 1
  rcases le_total r 0 with h | h
  · rw [min_eq_right (by linarith), max_eq_left (by linarith)]; ring
  · rw [min_eq_left (by linarith), max_eq_right (by linarith)]; ring

/-- A logarithm that is not positive, split in its rounded part and the remainder. -/
theorem add_self_sub {l : EReal} (h : l ≤ 0) : l + (l - l) = l := by
  induction l using EReal.rec with
  | bot => simp
  | top => exact absurd h (by simp)
  | coe r => rw [← EReal.coe_sub, sub_self, EReal.coe_zero, add_zero]

/-! ### One weight -/

theorem exp_nonneg (x : EReal) : 0 ≤ Ideal.exp x := by
  induction x using EReal.rec with
  | bot => exact le_refl _
  | top => exact le_top
  | coe r => rw [exp_coe]; exact EReal.coe_nonneg.mpr (Real.exp_pos r).le

theorem exp_ne_top {x : EReal} (h : x ≤ 0) : Ideal.exp x ≠ ⊤ := by
  induction x using EReal.rec with
  | bot => rw [exp_bot]; simp
  | top => exact absurd h (by simp)
  | coe r => rw [exp_coe]; exact EReal.coe_ne_top _

theorem exp_le_zero {x : EReal} (h : Ideal.exp x ≤ 0) : x = ⊥ := by
  induction x using EReal.rec with
  | bot => rfl
  | top => rw [exp_top] at h; exact absurd h (by simp)
  | coe r => rw [exp_coe] at h; exact absurd (EReal.coe_nonpos.mp h) (not_le.mpr (Real.exp_pos r))

/-- The weight of a key with score `z`: what its block gives it, shortened by the later blocks (`C`), is the plain weight, from the
    sum `lg z + B + C` of all the logarithms from its own on. -/
theorem weight_eq (z B C : EReal) (hB : B ≤ 0) (hC : C ≤ 0) :
    Ideal.exp C * Ideal.exp (z + (lg z + B)) = Ideal.exp (ls z + ((lg z + B + C) - lg z)) := by
  induction z using EReal.rec with
  | bot => rw [EReal.bot_add, exp_bot, mul_zero]; unfold ls; rw [EReal.neg_bot, sp_top, EReal.neg_top, EReal.bot_add, exp_bot]
  | top =>
    rw [lg_top, EReal.bot_add, EReal.add_bot, exp_bot, mul_zero, EReal.bot_add, sub_eq_add_neg, EReal.bot_add, EReal.add_bot, exp_bot]
  | coe r =>
    have hl : lg (r : EReal) = ((min (-r) 0 - Real.log (1 + Real.exp (-|r|)) : ℝ) : EReal) := lg_coe r
    rw [← add_assoc, add_lg]
    have hs : ls (r : EReal) = ((r + (min (-r) 0 - Real.log (1 + Real.exp (-|r|))) : ℝ) : EReal) := by
      rw [← add_lg, hl, ← EReal.coe_add]
    rw [hs, hl]
    generalize (min (-r) 0 - Real.log (1 + Real.exp (-|r|)) : ℝ) = a
    generalize r + a = b
    induction B using EReal.rec with
    | bot => simp [exp_bot]
    | top => exact absurd hB (by simp)
    | coe B =>
      induction C using EReal.rec with
      | bot => simp [exp_bot]
      | top => exact absurd hC (by simp)
      | coe C =>
        rw [← EReal.coe_add, ← EReal.coe_add, ← EReal.coe_add, ← EReal.coe_sub, ← EReal.coe_add, exp_coe, exp_coe, exp_coe,
          ← EReal.coe_mul, ← Real.exp_add]
        congr 2; ring

/-- A key before which the whole stick is gone weighs nothing. -/
theorem weight_dead (z l : EReal) : Ideal.exp (ls z + (⊥ - l)) = 0 := by
  rw [sub_eq_add_neg, EReal.bot_add, EReal.add_bot, exp_bot]

/-- A factor that is finite and not negative goes into a sum. -/
theorem mul_sum_of {ι : Type} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih => rw [sum_insert hi, sum_insert hi, EReal.left_distrib_of_nonneg_of_ne_top h0 ht, ih]

theorem sum_le_zero {ι : Type} (s : Finset ι) (f : ι → EReal) (h : ∀ i ∈ s, f i ≤ 0) : ∑ i ∈ s, f i ≤ 0 :=
  Finset.sum_nonpos h

/-! ### A row of scores -/

/-- The logarithm that key `s` contributes to query `t`: nothing from `t` on. -/
def lv (t : ℕ) (z : ℕ → EReal) (s : ℕ) : EReal := if s < t then lg (z s) else 0

/-- The logarithms from key `s` on, of 8192. -/
def suf (t : ℕ) (z : ℕ → EReal) (s : ℕ) : EReal := ∑ r ∈ Ico s 8192, lv t z r

/-- The weight of key `s`. -/
def wt (t : ℕ) (z : ℕ → EReal) (s : ℕ) : EReal := if s < t then Ideal.exp (ls (z s) + (suf t z s - lv t z s)) else 0

/-- What the keys from `s` on gather. -/
def gat (t : ℕ) (z v : ℕ → EReal) (s : ℕ) : EReal := ∑ r ∈ Ico s 8192, wt t z r * v r

theorem lv_le (t : ℕ) (z : ℕ → EReal) (s : ℕ) : lv t z s ≤ 0 := by
  unfold lv; split
  · exact lg_le _
  · exact le_refl _

theorem suf_le (t : ℕ) (z : ℕ → EReal) (s : ℕ) : suf t z s ≤ 0 := sum_le_zero _ _ fun _ _ => lv_le _ _ _

theorem suf_cut (t : ℕ) (z : ℕ → EReal) {a b : ℕ} (h : a ≤ b) (hb : b ≤ 8192) : suf t z a = (∑ r ∈ Ico a b, lv t z r) + suf t z b :=
  (Finset.sum_Ico_consecutive _ h hb).symm

theorem suf_of_le (t : ℕ) (z : ℕ → EReal) {s : ℕ} (h : t ≤ s) : suf t z s = 0 :=
  Finset.sum_eq_zero fun r hr => if_neg (by have := (mem_Ico.mp hr).1; omega)

theorem gat_of_le (t : ℕ) (z v : ℕ → EReal) {s : ℕ} (h : t ≤ s) : gat t z v s = 0 :=
  Finset.sum_eq_zero fun r hr => by
    unfold wt; rw [if_neg (by have := (mem_Ico.mp hr).1; omega), zero_mul]

/-- A sum over a block's 256 keys. -/
theorem sum_block (f : ℕ → EReal) (a : ℕ) : ∑ c : Fin 256, f (a + c.val) = ∑ r ∈ Ico a (a + 256), f r := by
  rw [Finset.sum_Ico_eq_sum_range, show a + 256 - a = 256 by omega, Finset.sum_range]

/-- The sum over a block's keys from key `c` on. -/
theorem sum_block_from (f : ℕ → EReal) (a : ℕ) (c : ℕ) :
    ∑ r : Fin 256, (if c ≤ r.val then f (a + r.val) else 0) = ∑ r ∈ Ico (a + c) (a + 256), f r := by
  rw [sum_block (fun s => if c ≤ s - a then f s else 0) a |>.symm.symm.trans ?_ |> fun h => (Finset.sum_congr rfl fun r _ => by
    rw [Nat.add_sub_cancel_left]).trans h]
  rw [← Finset.sum_filter]
  refine Finset.sum_congr ?_ fun _ _ => rfl
  ext r; simp only [mem_filter, mem_Ico]; omega

/-- One block: what the later keys gather, and the block's own weights shortened by the stick that the later keys leave. -/
theorem gat_step (t : ℕ) (z v : ℕ → EReal) (a : ℕ) (ha : a + 256 ≤ 8192) :
    gat t z v (a + 256) + Ideal.exp (suf t z (a + 256)) * ∑ c : Fin 256,
        (if a + c.val < t then Ideal.exp (z (a + c.val) + ∑ r ∈ Ico (a + c.val) (a + 256), lv t z r) else 0) * v (a + c.val)
      = gat t z v a := by
  rw [mul_sum_of _ (exp_nonneg _) (exp_ne_top (suf_le _ _ _)), add_comm]
  rw [sum_block (fun s => Ideal.exp (suf t z (a + 256)) * ((if s < t then Ideal.exp (z s + ∑ r ∈ Ico s (a + 256), lv t z r) else 0) * v s)) a]
  unfold gat
  rw [← Finset.sum_Ico_consecutive _ (show a ≤ a + 256 by omega) ha]
  congr 1
  refine Finset.sum_congr rfl fun s hs => ?_
  obtain ⟨h1, h2⟩ := mem_Ico.mp hs
  rw [← mul_assoc]; congr 1
  unfold wt
  split
  · rename_i hst
    rw [suf_cut t z h2.le ha, Finset.sum_eq_sum_Ico_succ_bot h2, show lv t z s = lg (z s) from if_pos hst]
    exact weight_eq _ _ _ (sum_le_zero _ _ fun _ _ => lv_le _ _ _) (suf_le _ _ _)
  · rw [mul_zero]

/-- Once the whole stick is gone, the earlier keys gather nothing. -/
theorem gat_dead (t : ℕ) (z v : ℕ → EReal) {a : ℕ} (ha : a ≤ 8192) (h : Ideal.exp (suf t z a) ≤ 0) : gat t z v 0 = gat t z v a := by
  unfold gat
  rw [← Finset.sum_Ico_consecutive _ (Nat.zero_le a) ha]
  rw [Finset.sum_eq_zero (s := Ico 0 a), zero_add]
  intro s hs
  have hs := (mem_Ico.mp hs).2
  unfold wt
  split
  · rw [suf_cut t z hs.le ha, exp_le_zero h, EReal.add_bot, weight_dead, zero_mul]
  · rw [zero_mul]

end Cert.Val

end
-- ==== Proof.Val.Blocks.lean ====
/-
  What one block of keys does to a head's state, read at an entry over the extended reals.
-/
module

public import proofs.«01_k».proof.Proof.SB.Step
public import proofs.«01_k».proof.Proof.Val.Math
public import Idealize.ShloMosaic.Lib.Pointwise
public import Idealize.ShloMosaic.Lib.IdealHost

@[expose] public section

noncomputable section

namespace Cert.Val

open Cert.KernelIdeal Cert.KernelIdeal.Gen Cert.KernelIdeal.SB
open Idealize.ShloMosaic Idealize.ShloMosaic.Pointwise
open scoped BigOperators

/-- A score: the product of a query row and a key row. -/
theorem zT_apply (q k : Vec Ideal S1x256x128 .bf16) (r c : Fin 256) :
    zT (F := Ideal) q k (ix2 r c) = ∑ d : Fin 128, q (ix3 0 r d) * k (ix3 0 c d) := by
  pointwise [zT, k0_pay6]

/-- The strict mask inside the diagonal block. -/
theorem mask_apply (r c : Fin 256) : k0_pay15 (ix2 r c) = BitVec.ofBool (decide (c.val < r.val)) := by
  pointwise [k0_pay15]
  show BitVec.ofBool ((BitVec.ofNat 32 c.val).slt (BitVec.ofNat 32 r.val)) = _
  congr 1
  have hc := c.isLt
  have hr := r.isLt
  rw [BitVec.slt, BitVec.toInt_eq_toNat_of_lt (by simp; omega), BitVec.toInt_eq_toNat_of_lt (by simp; omega)]
  simp only [BitVec.toNat_ofNat, Nat.mod_eq_of_lt (show c.val < 2 ^ 32 by omega), Nat.mod_eq_of_lt (show r.val < 2 ^ 32 by omega),
    Nat.cast_lt]

theorem carryN_apply (s : FVec Ideal S256x1 .f32) (cum : FVec Ideal S256x256 .f32) (r : Fin 256) :
    carryN (F := Ideal) s cum (ix2 r 0) = s (ix2 r 0) + cum (ix2 r 0) := by
  pointwise [carryN, k0_pay31]

theorem decayN_apply (s : FVec Ideal S256x1 .f32) (cum : FVec Ideal S256x256 .f32) (r : Fin 256) :
    decayN (F := Ideal) s cum (ix2 r 0) = Ideal.exp (carryN (F := Ideal) s cum (ix2 r 0)) := by
  rfl

theorem accL_apply (d : FVec Ideal S256x1 .f32) (a : FVec Ideal S256x128 .f32) (z cum : FVec Ideal S256x256 .f32)
    (v : Vec Ideal S1x256x128 .bf16) (r : Fin 256) (l : Fin 128) :
    accL (F := Ideal) d a z cum v (ix2 r l)
      = a (ix2 r l) + d (ix2 r 0) * ∑ c : Fin 256, Ideal.exp (z (ix2 r c) + cum (ix2 r c)) * v (ix3 0 c l) := by
  pointwise [accL, k0_pay95]

theorem accD_apply (d : FVec Ideal S256x1 .f32) (a : FVec Ideal S256x128 .f32) (z cum : FVec Ideal S256x256 .f32)
    (v : Vec Ideal S1x256x128 .bf16) (r : Fin 256) (l : Fin 128) :
    accD (F := Ideal) d a z cum v (ix2 r l)
      = a (ix2 r l) + d (ix2 r 0) * ∑ c : Fin 256,
          (if c.val < r.val then Ideal.exp (z (ix2 r c) + cum (ix2 r c)) else 0) * v (ix3 0 c l) := by
  pointwise [accD, k0_pay33]
  congr 2
  refine Finset.sum_congr rfl fun c _ => ?_
  rw [mask_apply]
  by_cases h : c.val < r.val
  · rw [if_pos h, decide_eq_true h]; rfl
  · rw [if_neg h, decide_eq_false h, zero_mul]; rfl

theorem outT_apply (a : FVec Ideal S256x128 .f32) (r : Fin 256) (l : Fin 128) :
    outT (F := Ideal) a (ix3 0 r l) = a (ix2 r l) := by
  pointwise [outT, k0_pay59]

theorem cumL_apply (v1 : FVec Ideal S256x256 .bf16) (z : FVec Ideal S256x256 .f32)
    (hv : ∀ r c : Fin 256, v1 (ix2 r c) = if c.val ≤ r.val then 1 else 0) (r c : Fin 256) :
    cumL (F := Ideal) v1 z (ix2 r c) = ∑ c' : Fin 256, if c.val ≤ c'.val then lg (z (ix2 r c')) else 0 := by
  pointwise [cumL, k0_pay76, k0_pay77, k0_pay78]
  rw [← Finset.sum_add_distrib]
  refine Finset.sum_congr rfl fun c' _ => ?_
  show lg (z (ix2 r c')) * _ + (lg (z (ix2 r c')) - lg (z (ix2 r c'))) * _ = _
  rw [hv]
  by_cases h : c.val ≤ c'.val
  · rw [if_pos h, if_pos h, mul_one, mul_one, add_self_sub (lg_le _)]
  · rw [if_neg h, if_neg h, mul_zero, mul_zero, add_zero]

theorem cumD_apply (v1 : FVec Ideal S256x256 .bf16) (z : FVec Ideal S256x256 .f32)
    (hv : ∀ r c : Fin 256, v1 (ix2 r c) = if c.val ≤ r.val then 1 else 0) (r c : Fin 256) :
    cumD (F := Ideal) v1 z (ix2 r c)
      = ∑ c' : Fin 256, if c.val ≤ c'.val then (if c'.val < r.val then lg (z (ix2 r c')) else 0) else 0 := by
  pointwise [cumD, k0_pay16, k0_pay17]
  rw [← Finset.sum_add_distrib]
  refine Finset.sum_congr rfl fun c' _ => ?_
  show Scalar.select _ (lg (z (ix2 r c')) * _) (0 : EReal)
    + (Scalar.select _ (lg (z (ix2 r c'))) (0 : EReal) - Scalar.select _ (lg (z (ix2 r c'))) (0 : EReal)) * _ = _
  rw [hv, mask_apply]
  by_cases h' : c'.val < r.val
  · rw [decide_eq_true h', if_pos h']
    show lg (z (ix2 r c')) * _ + (lg (z (ix2 r c')) - lg (z (ix2 r c'))) * _ = _
    by_cases h : c.val ≤ c'.val
    · rw [if_pos h, if_pos h, mul_one, mul_one, add_self_sub (lg_le _)]
    · rw [if_neg h, if_neg h, mul_zero, mul_zero, add_zero]
  · rw [decide_eq_false h', if_neg h', ite_self]
    show (0 : EReal) + (0 - 0) * _ = 0
    rw [sub_zero, zero_mul, add_zero]

/-- A stick left is at most the largest of its head. -/
theorem le_maxHead (d : FVec Ideal S256x1 .f32) (r : Fin 256) : d (ix2 r 0) ≤ maxHead (F := Ideal) d := by
  have h : maxHead (F := Ideal) d
      = Finset.fold max (Ideal.ofBits FTy.f32 4286578688#32) (fun x : Fin 256 × Fin 1 => d (ix2 x.1 0)) Finset.univ := by
    pointwise [maxHead]
  rw [h]
  exact ((Finset.le_fold_max _).mpr (Or.inr ⟨(r, 0), Finset.mem_univ _, le_rfl⟩))

/-- When no stick is left, every head's are nothing. -/
theorem dead_of_alive (s : Fin 8 → Head Ideal) (h : ¬ alive s = 1#1) (i : Fin 8) (r : Fin 256) : (s i).decay (ix2 r 0) ≤ 0 := by
  have hm : maxAll (F := Ideal) (s 0).decay (s 1).decay (s 2).decay (s 3).decay (s 4).decay (s 5).decay (s 6).decay (s 7).decay
      ≤ 0 := by
    by_contra hn
    apply h
    show BitVec.ofBool (decide (_ > Ideal.ofBits .f32 0x00000000#32)) = 1#1
    rw [decide_eq_true (by rw [Ideal.ofBits_zero_f32]; exact not_le.mp hn)]; rfl
  have h7 := max_le_iff.mp hm
  have h6 := max_le_iff.mp h7.1
  have h5 := max_le_iff.mp h6.1
  have h4 := max_le_iff.mp h5.1
  have h3 := max_le_iff.mp h4.1
  have h2 := max_le_iff.mp h3.1
  have h1 := max_le_iff.mp h2.1
  refine le_trans (le_maxHead _ r) ?_
  fin_cases i
  exacts [h1.1, h1.2, h2.2, h3.2, h4.2, h5.2, h6.2, h7.2]

/-- The triangle matrix as read. -/
theorem tri_apply (x : Vec Ideal S256x256 .bf16) (r c : Fin 256) : k0_pay2 (F := Ideal) x (ix2 r c) = x (ix2 r c) := by
  pointwise [k0_pay2]

theorem zero1_apply (r : Fin 256) : k0_pay3 (F := Ideal) (ix2 r 0) = 0 := by
  pointwise [k0_pay3]

theorem one_apply (r : Fin 256) : k0_pay4 (F := Ideal) (ix2 r 0) = 1 := by
  pointwise [k0_pay4]

theorem zeroAcc_apply (r : Fin 256) (l : Fin 128) : k0_pay5 (F := Ideal) (ix2 r l) = 0 := by
  pointwise [k0_pay5]

end Cert.Val

end
-- ==== Proof.Val.State.lean ====
/-
  The heads' states after the blocks down to `j`: the stick left and what the keys from `256 j` on gather.
-/
module

public import proofs.«01_k».proof.Proof.SB.Body
public import proofs.«01_k».proof.Proof.Val.Blocks
public import Idealize.ShloMosaic.Lib.Pipeline.ReadBack
public import Idealize.ShloMosaic.Lib.VecWindow

@[expose] public section

noncomputable section

namespace Cert.Val

open Cert.KernelIdeal Cert.KernelIdeal.Gen Cert.KernelIdeal.SB
open Idealize.ShloMosaic Finset
open scoped BigOperators

/-- The scores of row `r` of a query block of head `h`, by key. -/
def zR (x0 : Vec Ideal S8x256x128 .bf16) (x1 : Vec Ideal S8x8192x128 .bf16) (h : Fin 8) (r : Fin 256) (s : ℕ) : EReal :=
  ∑ d : Fin 128, x0 (ix3 h r d) * x1 (ix3 h ⟨s % 8192, Nat.mod_lt _ (by decide)⟩ d)

/-- Column `l` of head `h`'s values, by key. -/
def vC (x2 : Vec Ideal S8x8192x128 .bf16) (h : Fin 8) (l : Fin 128) (s : ℕ) : EReal :=
  x2 (ix3 h ⟨s % 8192, Nat.mod_lt _ (by decide)⟩ l)

theorem zT_blk (x0 : Vec Ideal S8x256x128 .bf16) (x1 : Vec Ideal S8x8192x128 .bf16) (h : Fin 8) (b : ℕ) (r c : Fin 256) :
    zT (F := Ideal) (qBlk x0 h) (kBlk x1 h b) (ix2 r c) = zR x0 x1 h r (256 * b + c.val) := by
  rw [zT_apply]; rfl

theorem vC_blk (x2 : Vec Ideal S8x8192x128 .bf16) (h : Fin 8) (b : ℕ) (c : Fin 256) (l : Fin 128) :
    kBlk x2 h b (ix3 0 c l) = vC x2 h l (256 * b + c.val) := rfl

/-- The lower triangle of ones, with its diagonal. -/
def IsTri (v1 : FVec Ideal S256x256 .bf16) : Prop := ∀ r c : Fin 256, v1 (ix2 r c) = if c.val ≤ r.val then 1 else 0

variable (x0 : Vec Ideal S8x256x128 .bf16) (x1 x2 : Vec Ideal S8x8192x128 .bf16) {v1 : FVec Ideal S256x256 .bf16}

theorem cumL_blk (hv : IsTri v1) (h : Fin 8) {b j : ℕ} (hj : j < b) (r c : Fin 256) :
    cumL (F := Ideal) v1 (zT (qBlk x0 h) (kBlk x1 h j)) (ix2 r c)
      = ∑ s ∈ Ico (256 * j + c.val) (256 * j + 256), lv (256 * b + r.val) (zR x0 x1 h r) s := by
  rw [cumL_apply _ _ hv, ← sum_block_from]
  refine Finset.sum_congr rfl fun c' _ => ?_
  rw [zT_blk, lv, if_pos (show 256 * j + c'.val < 256 * b + r.val by have := c'.isLt; omega)]

theorem cumD_blk (hv : IsTri v1) (h : Fin 8) (b : ℕ) (r c : Fin 256) :
    cumD (F := Ideal) v1 (zT (qBlk x0 h) (kBlk x1 h b)) (ix2 r c)
      = ∑ s ∈ Ico (256 * b + c.val) (256 * b + 256), lv (256 * b + r.val) (zR x0 x1 h r) s := by
  rw [cumD_apply _ _ hv, ← sum_block_from]
  refine Finset.sum_congr rfl fun c' _ => ?_
  rw [zT_blk, lv]
  by_cases hc : c'.val < r.val
  · rw [if_pos hc, if_pos (show 256 * b + c'.val < 256 * b + r.val by omega)]
  · rw [if_neg hc, if_neg (show ¬ 256 * b + c'.val < 256 * b + r.val by omega)]

/-- The state after the blocks down to `j` of the queries of block `b`. -/
def Inv (b j : ℕ) (s : Fin 8 → Head Ideal) : Prop :=
  ∀ (h : Fin 8) (r : Fin 256),
    (s h).carry (ix2 r 0) = suf (256 * b + r.val) (zR x0 x1 h r) (256 * j)
    ∧ (s h).decay (ix2 r 0) = Ideal.exp (suf (256 * b + r.val) (zR x0 x1 h r) (256 * j))
    ∧ ∀ l : Fin 128, (s h).acc (ix2 r l) = gat (256 * b + r.val) (zR x0 x1 h r) (vC x2 h l) (256 * j)

theorem inv_diag (hv : IsTri v1) {b : ℕ} (hb : b < 32) : Inv x0 x1 x2 b b (diagState x0 x1 x2 v1 b) := by
  intro h r
  have hc : carryN (F := Ideal) k0_pay3 (cumD v1 (zT (qBlk x0 h) (kBlk x1 h b))) (ix2 r 0)
      = suf (256 * b + r.val) (zR x0 x1 h r) (256 * b) := by
    rw [carryN_apply, zero1_apply, zero_add, cumD_blk x0 x1 hv,
      suf_cut _ _ (show 256 * b ≤ 256 * b + 256 by omega) (by omega),
      suf_of_le _ _ (show 256 * b + r.val ≤ 256 * b + 256 by have := r.isLt; omega), add_zero]
    rfl
  refine ⟨hc, ?_, fun l => ?_⟩
  · show decayN (F := Ideal) _ _ _ = _
    rw [decayN_apply, hc]
  · show accD (F := Ideal) k0_pay4 k0_pay5 _ _ _ _ = _
    rw [accD_apply, one_apply, zeroAcc_apply, ← gat_step _ _ _ (256 * b) (by omega),
      gat_of_le _ _ _ (show 256 * b + r.val ≤ 256 * b + 256 by have := r.isLt; omega),
      suf_of_le _ _ (show 256 * b + r.val ≤ 256 * b + 256 by have := r.isLt; omega),
      show Ideal.exp 0 = 1 by rw [← EReal.coe_zero, exp_coe, Real.exp_zero, EReal.coe_one]]
    congr 2
    refine Finset.sum_congr rfl fun c _ => ?_
    rw [zT_blk, cumD_blk x0 x1 hv, vC_blk]
    by_cases hc : c.val < r.val
    · rw [if_pos hc, if_pos (show 256 * b + c.val < 256 * b + r.val by omega)]
    · rw [if_neg hc, if_neg (show ¬ 256 * b + c.val < 256 * b + r.val by omega)]

theorem inv_loop (hv : IsTri v1) {b j : ℕ} (hb : b < 32) (hj : j < b) {s : Fin 8 → Head Ideal} (hs : Inv x0 x1 x2 b (j + 1) s) :
    Inv x0 x1 x2 b j (loopState x0 x1 x2 v1 j s) := by
  intro h r
  obtain ⟨h1, h2, h3⟩ := hs h r
  have hc : carryN (F := Ideal) (s h).carry (cumL v1 (zT (qBlk x0 h) (kBlk x1 h j))) (ix2 r 0)
      = suf (256 * b + r.val) (zR x0 x1 h r) (256 * j) := by
    rw [carryN_apply, h1, cumL_blk x0 x1 hv h hj,
      suf_cut _ _ (show 256 * j ≤ 256 * j + 256 by omega) (by omega), add_comm]
    rfl
  refine ⟨hc, ?_, fun l => ?_⟩
  · show decayN (F := Ideal) _ _ _ = _
    rw [decayN_apply, hc]
  · show accL (F := Ideal) (s h).decay (s h).acc _ _ _ _ = _
    rw [accL_apply, h2, h3, ← gat_step _ _ _ (256 * j) (by omega)]
    congr 2
    refine Finset.sum_congr rfl fun c _ => ?_
    rw [zT_blk, cumL_blk x0 x1 hv h hj, vC_blk, if_pos (by have := c.isLt; omega)]

theorem loop_acc (hv : IsTri v1) {b : ℕ} (hb : b < 32) (h : Fin 8) (r : Fin 256) (l : Fin 128) :
    ∀ (k n : ℕ) (s : Fin 8 → Head Ideal), k ≤ b → Inv x0 x1 x2 b k s →
      ((loopFrom x0 x1 x2 v1 k n (alive s) s).2.2 h).acc (ix2 r l)
        = gat (256 * b + r.val) (zR x0 x1 h r) (vC x2 h l) 0 := by
  intro k
  induction k with
  | zero => intro n s _ hs; exact (hs h r).2.2 l
  | succ k ih =>
    intro n s hk hs
    rw [loopFrom]
    by_cases ha : alive s = 1#1
    · rw [if_pos ha]
      exact ih _ _ (by omega) (inv_loop x0 x1 x2 hv hb (by omega) hs)
    · rw [if_neg ha, gat_dead _ _ _ (a := 256 * (k + 1)) (by omega)
        (by rw [← (hs h r).2.1]; exact dead_of_alive s ha h r)]
      exact (hs h r).2.2 l

/-- The head's gathered values at the end are what all the keys before the query gather. -/
theorem final_acc (x3 : Vec Ideal S256x256 .bf16) (hx : IsTri x3) {b : ℕ} (hb : b < 32) (h : Fin 8) (r : Fin 256) (l : Fin 128) :
    (finalState x0 x1 x2 x3 b h).acc (ix2 r l) = gat (256 * b + r.val) (zR x0 x1 h r) (vC x2 h l) 0 := by
  have hv : IsTri (k0_pay2 (F := Ideal) (View.ld x3 rTri)) := fun r c => by
    rw [tri_apply, ← hx r c]
    exact congrArg x3 (Rect.emb_unit_full _ _)
  exact loop_acc x0 x1 x2 hv hb h r l b 0 _ le_rfl (inv_diag x0 x1 x2 hv hb)

/-- One head's store is its plane of the block. -/
theorem piece (P : Fin 8 → Vec Ideal S1x256x128 .bf16) (h : Fin 8) (off : Fin 3 → Nat) (ho : off = ![h.val, 0, 0])
    (inb : ∀ a, off a + S1x256x128.size a ≤ S8x256x128.size a) (x : S1x256x128.Idx) :
    P h x = (fun y : S8x256x128.Idx => P (y 0) (ix3 0 (y 1) (y 2))) ((Rect.unit (s := S8x256x128) off S1x256x128.size inb).emb x) := by
  subst ho
  have h1 : (x 0).val < 1 := (x 0).isLt
  have e0 : (Rect.unit (s := S8x256x128) ![h.val, 0, 0] S1x256x128.size inb).emb x 0 = h :=
    Fin.ext (by show h.val + 1 * (x 0).val = h.val; omega)
  show P h x = P ((Rect.unit (s := S8x256x128) ![h.val, 0, 0] S1x256x128.size inb).emb x 0) _
  rw [e0]
  refine congrArg (P h) (funext fun a => ?_)
  fin_cases a
  · exact Fin.ext (by show (x 0).val = 0; omega)
  · exact Fin.ext (by show (x 1).val = 0 + 1 * (x 1).val; omega)
  · exact Fin.ext (by show (x 2).val = 0 + 1 * (x 2).val; omega)

/-- The output block, at an entry. -/
theorem out0_apply (i : grid0.Coords) (x3 : Vec Ideal S256x256 .bf16) (hx : IsTri x3) (h : Fin 8) (r : Fin 256) (l : Fin 128) :
    out0 (F := Ideal) i x0 x1 x2 x3 (ix3 h r l) = gat (256 * (i 1).val + r.val) (zR x0 x1 h r) (vC x2 h l) 0 := by
  have hb : (i 1).val < 32 := (i 1).isLt
  rw [← final_acc x0 x1 x2 x3 hx hb h r l, ← outT_apply (finalState x0 x1 x2 x3 (i 1).val h).acc r l]
  have hq : ∀ P : Fin 8 → Vec Ideal S1x256x128 .bf16,
      View.canon (Val := Elt Ideal) (s := S8x256x128) (e := .bf16)
        [⟨rO7, P 7⟩, ⟨rO6, P 6⟩, ⟨rO5, P 5⟩, ⟨rO4, P 4⟩, ⟨rO3, P 3⟩, ⟨rO2, P 2⟩, ⟨rO1, P 1⟩, ⟨rO0, P 0⟩] (ix3 h r l)
        = P h (ix3 0 r l) := fun P => by
    have := View.canon_append_of_piecesOf (Val := Elt Ideal) (s := S8x256x128) (e := .bf16)
      (fun y : S8x256x128.Idx => P (y 0) (ix3 0 (y 1) (y 2))) []
      [⟨rO7, P 7⟩, ⟨rO6, P 6⟩, ⟨rO5, P 5⟩, ⟨rO4, P 4⟩, ⟨rO3, P 3⟩, ⟨rO2, P 2⟩, ⟨rO1, P 1⟩, ⟨rO0, P 0⟩]
      ⟨piece P 7 _ rfl inb_S8x256x128_S1x256x128_7_0_0, piece P 6 _ rfl inb_S8x256x128_S1x256x128_6_0_0, piece P 5 _ rfl inb_S8x256x128_S1x256x128_5_0_0, piece P 4 _ rfl inb_S8x256x128_S1x256x128_4_0_0, piece P 3 _ rfl inb_S8x256x128_S1x256x128_3_0_0, piece P 2 _ rfl inb_S8x256x128_S1x256x128_2_0_0, piece P 1 _ rfl inb_S8x256x128_S1x256x128_1_0_0, piece P 0 _ rfl inb_S8x256x128_S1x256x128_0_0_0, trivial⟩
      (ix3 h r l) (cover0 _ _ _ _ _ _ _ _ _)
    rw [List.append_nil] at this
    exact this
  exact hq fun h => outT (finalState x0 x1 x2 x3 (i 1).val h).acc

end Cert.Val

end
-- ==== Proof.Val.Spec.lean ====
/-
  Stick-breaking attention in plain words, entry by entry; the kernel's products over 128 lanes are its products over 64.
-/
module

public import proofs.«01_k».proof.Proof.Val.Math
public import Idealize.ShloMosaic.Lib.Pointwise

@[expose] public section

noncomputable section

namespace Cert.Val

open Idealize.ShloMosaic
open scoped BigOperators

/-- The shape of the queries, the keys, the values and the result. -/
abbrev SA : Shape := ⟨4, ![2, 8, 8192, 64]⟩

/-- The scale of the scores, an eighth. -/
def eighth : EReal := Ideal.ofBits .f32 0x3E000000#32

theorem eighth_eq : eighth = ((1 / 8 : ℝ) : EReal) := by
  unfold eighth
  simp [Ideal.ofBits, Ideal.ieee, -EReal.coe_mul]
  norm_num

/-- The score of query `t` with key `s`. -/
def score (q k : SA.Idx → EReal) (B : Fin 2) (h : Fin 8) (t : Fin 8192) (s : ℕ) : EReal :=
  (∑ d : Fin 64, q (ix4 B h t d) * k (ix4 B h ⟨s % 8192, Nat.mod_lt _ (by decide)⟩ d)) * eighth

/-- Column `d` of a head's values, by key. -/
def col (v : SA.Idx → EReal) (B : Fin 2) (h : Fin 8) (d : Fin 64) (s : ℕ) : EReal :=
  v (ix4 B h ⟨s % 8192, Nat.mod_lt _ (by decide)⟩ d)

/-- What query `t` gathers from the keys before it. -/
def attn (q k v : SA.Idx → EReal) (B : Fin 2) (h : Fin 8) (t : Fin 8192) (d : Fin 64) : EReal :=
  gat t.val (score q k B h t) (col v B h d) 0

/-- The attention, as an array. -/
def attnA (q k v : SA.Idx → EReal) : SA.Idx → EReal := fun j => attn q k v (j 0) (j 1) (j 2) (j 3)

theorem ix4_eta (j : SA.Idx) : j = ix4 (j 0) (j 1) (j 2) (j 3) := by
  funext a; fin_cases a <;> rfl

/-- A product over 128 lanes, the last 64 of them nothing, the first factor scaled. -/
theorem lanes_sum (a b : Fin 64 → EReal) :
    ∑ d : Fin 128, (if hd : d.val < 64 then a ⟨d.val, hd⟩ * eighth else 0) * (if hd : d.val < 64 then b ⟨d.val, hd⟩ else 0)
      = (∑ d : Fin 64, a d * b d) * eighth := by
  rw [mul_comm _ eighth, mul_sum_of _ (by rw [eighth_eq]; exact EReal.coe_nonneg.mpr (by norm_num)) (by rw [eighth_eq]; exact EReal.coe_ne_top _)]
  refine (Fin.sum_univ_add (a := 64) (b := 64) _).trans ?_
  have hz : ∀ d : Fin 64, (if hd : (Fin.natAdd 64 d).val < 64 then a ⟨(Fin.natAdd 64 d).val, hd⟩ * eighth else (0 : EReal))
      * (if hd : (Fin.natAdd 64 d).val < 64 then b ⟨(Fin.natAdd 64 d).val, hd⟩ else 0) = 0 := fun d => by
    rw [dif_neg (show ¬ (Fin.natAdd 64 d).val < 64 by simp), zero_mul]
  refine (congrArg₂ (· + ·) (Finset.sum_congr rfl fun d _ => ?_) (Finset.sum_eq_zero fun d _ => hz d)).trans (add_zero _)
  rw [dif_pos (show (Fin.castAdd 64 d).val < 64 from d.isLt), dif_pos (show (Fin.castAdd 64 d).val < 64 from d.isLt)]
  show a d * eighth * b d = _
  rw [mul_right_comm, mul_comm]

end Cert.Val

end
-- ==== Proof.Val.Host.lean ====
/-
  What the host lines before the kernel leave it: the planes of queries, keys and values, and the triangle matrix.
-/
module

public import proofs.«01_k».proof.Proof.SB.Launch
public import proofs.«01_k».proof.Proof.Val.State
public import proofs.«01_k».proof.Proof.Val.Spec
public import Idealize.ShloMosaic.Lib.StableHlo.ReadAt
public import Idealize.ShloMosaic.Lib.Tactic.WordOmega

@[expose] public section

noncomputable section

namespace Cert.Val

open Cert.KernelIdeal Cert.KernelIdeal.Gen Cert.KernelIdeal.SB
open Idealize.ShloMosaic Idealize.ShloMosaic.TcCoe
open Idealize.SL Idealize.SL.Sem
open scoped BigOperators

variable (m : (ℓ : Loc nD τ sig) → Buf (Elt Ideal) ℓ)

theorem tri_at (c : Dev nD) (i j : Fin 256) : V m c main_v2 (ix2 i j) = if j.val ≤ i.val then (1 : EReal) else 0 := by
  unfold V V0
  after_reads_at
  word_omega

theorem sitofp_zero : FloatOps.sitofp (F := Ideal) FTy.f32 (0#32) = (0 : EReal) := by
  show (((0#32).toInt : ℝ) : EReal) = 0
  simp

/-- The queries, the keys and the values. -/
abbrev qA (c : Dev nD) : S2x8x8192x64.Idx → EReal := m (c, Proc.tc.devRef main_arg0)
abbrev kA (c : Dev nD) : S2x8x8192x64.Idx → EReal := m (c, Proc.tc.devRef main_arg1)
abbrev vA (c : Dev nD) : S2x8x8192x64.Idx → EReal := m (c, Proc.tc.devRef main_arg2)

/-- The planes of queries: the queries scaled, then lanes of nothing. -/
theorem q_at (c : Dev nD) (h : Fin 8) (n : Fin 16384) (l : Fin 128) :
    V m c main_v18 (ix3 ⟨24 + h.val, by omega⟩ n l)
      = if hl : l.val < 64 then qA m c (ix4 ⟨n.val / 8192, by omega⟩ h ⟨n.val % 8192, by omega⟩ ⟨l.val, hl⟩) * eighth
        else (0 : EReal) := by
  have e : 24 + h.val - 24 = h.val := by omega
  unfold V V0
  after_reads_at
  generalize hR : (if hl : l.val < 64 then _ else (0 : EReal)) = R
  try rw [dif_neg (show ¬ 24 + h.val < 24 by omega)]
  try rw [dif_pos (show 24 + h.val - 24 < 8 by omega)]
  after_reads_at
  simp only [e, h.isLt, true_and, Fin.eta, sitofp_zero]
  exact hR

/-- The planes of keys. -/
theorem k_at (c : Dev nD) (h : Fin 8) (n : Fin 16384) (l : Fin 128) :
    V m c main_v18 (ix3 ⟨32 + h.val, by omega⟩ n l)
      = if hl : l.val < 64 then kA m c (ix4 ⟨n.val / 8192, by omega⟩ h ⟨n.val % 8192, by omega⟩ ⟨l.val, hl⟩)
        else (0 : EReal) := by
  have e : 32 + h.val - 24 - 8 = h.val := by omega
  unfold V V0
  after_reads_at
  generalize hR : (if hl : l.val < 64 then _ else (0 : EReal)) = R
  try rw [dif_neg (show ¬ 32 + h.val < 24 by omega)]
  try rw [dif_neg (show ¬ 32 + h.val - 24 < 8 by omega)]
  try rw [dif_pos (show 32 + h.val - 24 - 8 < 8 by omega)]
  after_reads_at
  simp only [e, h.isLt, true_and, Fin.eta, sitofp_zero]
  exact hR

/-- The planes of values. -/
theorem v_at (c : Dev nD) (h : Fin 8) (n : Fin 16384) (l : Fin 128) :
    V m c main_v18 (ix3 ⟨40 + h.val, by omega⟩ n l)
      = if hl : l.val < 64 then vA m c (ix4 ⟨n.val / 8192, by omega⟩ h ⟨n.val % 8192, by omega⟩ ⟨l.val, hl⟩)
        else (0 : EReal) := by
  have e : 40 + h.val - 24 - 8 - 8 = h.val := by omega
  unfold V V0
  after_reads_at
  generalize hR : (if hl : l.val < 64 then _ else (0 : EReal)) = R
  try rw [dif_neg (show ¬ 40 + h.val < 24 by omega)]
  try rw [dif_neg (show ¬ 40 + h.val - 24 < 8 by omega)]
  try rw [dif_neg (show ¬ 40 + h.val - 24 - 8 < 8 by omega)]
  after_reads_at
  simp only [e, h.isLt, true_and, Fin.eta, sitofp_zero]
  exact hR

end Cert.Val

end
-- ==== Proof.Val.Windows.lean ====
/-
  The blocks that the kernel reads at a grid point, and the array that it leaves.
-/
module

public import proofs.«01_k».proof.Proof.Val.Host
public import Idealize.ShloMosaic.Lib.Pipeline.ValueKit

@[expose] public section

noncomputable section

namespace Cert.Val

open Cert.KernelIdeal Cert.KernelIdeal.Gen Cert.KernelIdeal.SB
open Idealize.ShloMosaic Idealize.ShloMosaic.TcCoe Idealize.ShloMosaic.Pipeline
open Idealize.SL Idealize.SL.Sem
open scoped BigOperators

variable (m : (ℓ : Loc nD τ sig) → Buf (Elt Ideal) ℓ)

theorem idx0 : ∀ t : Fin grid0.N, win0_0.index t = ![3, (grid0.coords t 0).val * 32 + (grid0.coords t 1).val, 0] := by decide +kernel
theorem idx1 : ∀ t : Fin grid0.N, win0_1.index t = ![4, (grid0.coords t 0).val, 0] := by decide +kernel
theorem idx2 : ∀ t : Fin grid0.N, win0_2.index t = ![5, (grid0.coords t 0).val, 0] := by decide +kernel
theorem idx3 : ∀ t : Fin grid0.N, win0_3.index t = ![0, 0] := by decide +kernel
theorem idx4 : ∀ t : Fin grid0.N, win0_4.index t = ![0, (grid0.coords t 0).val * 32 + (grid0.coords t 1).val, 0] := by decide +kernel

theorem coord0_lt (t : Fin grid0.N) : (grid0.coords t 0).val < 2 := (grid0.coords t 0).isLt
theorem coord1_lt (t : Fin grid0.N) : (grid0.coords t 1).val < 32 := (grid0.coords t 1).isLt

theorem blk0 (c : Dev nD) (t : Fin grid0.N) (h : Fin 8) (r : Fin 256) (d : Fin 128) :
    iblk m c 0 t (ix3 h r d) = V m c main_v18 (ix3 ⟨24 + h.val, by omega⟩
      ⟨((grid0.coords t 0).val * 32 + (grid0.coords t 1).val) * 256 + r.val, by have := coord0_lt t; have := coord1_lt t; omega⟩ d) := by
  blk_ext [iblk, idx0 t]

theorem blk1 (c : Dev nD) (t : Fin grid0.N) (h : Fin 8) (s : Fin 8192) (d : Fin 128) :
    iblk m c 1 t (ix3 h s d) = V m c main_v18 (ix3 ⟨32 + h.val, by omega⟩
      ⟨(grid0.coords t 0).val * 8192 + s.val, by have := coord0_lt t; omega⟩ d) := by
  blk_ext [iblk, idx1 t]

theorem blk2 (c : Dev nD) (t : Fin grid0.N) (h : Fin 8) (s : Fin 8192) (d : Fin 128) :
    iblk m c 2 t (ix3 h s d) = V m c main_v18 (ix3 ⟨40 + h.val, by omega⟩
      ⟨(grid0.coords t 0).val * 8192 + s.val, by have := coord0_lt t; omega⟩ d) := by
  blk_ext [iblk, idx2 t]

theorem blk3 (c : Dev nD) (t : Fin grid0.N) (i j : Fin 256) :
    iblk m c 3 t (ix2 i j) = V m c main_v2 (ix2 i j) := by
  blk_ext [iblk, idx3 t]

/-- The kernel's triangle is the lower triangle of ones. -/
theorem isTri (c : Dev nD) (t : Fin grid0.N) : IsTri (iblk m c 3 t) := fun i j => (blk3 m c t i j).trans (tri_at m c i j)

/-- The place of row `r` of the query block at a point. -/
abbrev rowOf (t : Fin grid0.N) (r : Fin 256) : Fin 8192 :=
  ⟨256 * (grid0.coords t 1).val + r.val, by have := coord1_lt t; omega⟩

/-- The batch entry of a point. -/
abbrev batOf (t : Fin grid0.N) : Fin 2 := ⟨(grid0.coords t 0).val, coord0_lt t⟩

theorem score_blk (c : Dev nD) (t : Fin grid0.N) (h : Fin 8) (r : Fin 256) (s : ℕ) :
    zR (iblk m c 0 t) (iblk m c 1 t) h r s = score (qA m c) (kA m c) (batOf t) h (rowOf t r) s := by
  unfold zR score
  rw [← lanes_sum]
  refine Finset.sum_congr rfl fun d _ => ?_
  have h0 := coord0_lt t
  have h1 := coord1_lt t
  have hs : s % 8192 < 8192 := Nat.mod_lt _ (by decide)
  rw [blk0, blk1, q_at, k_at]
  have e1 : (((grid0.coords t 0).val * 32 + (grid0.coords t 1).val) * 256 + r.val) / 8192 = (grid0.coords t 0).val := by omega
  have e2 : (((grid0.coords t 0).val * 32 + (grid0.coords t 1).val) * 256 + r.val) % 8192 = 256 * (grid0.coords t 1).val + r.val := by omega
  have e3 : ((grid0.coords t 0).val * 8192 + s % 8192) / 8192 = (grid0.coords t 0).val := by omega
  have e4 : ((grid0.coords t 0).val * 8192 + s % 8192) % 8192 = s % 8192 := by omega
  simp only [e1, e2, e3, e4]

theorem col_blk (c : Dev nD) (t : Fin grid0.N) (h : Fin 8) (l : Fin 64) (s : ℕ) :
    vC (iblk m c 2 t) h ⟨l.val, by omega⟩ s = col (vA m c) (batOf t) h l s := by
  unfold vC col
  have h0 := coord0_lt t
  have hs : s % 8192 < 8192 := Nat.mod_lt _ (by decide)
  rw [blk2, v_at, dif_pos l.isLt]
  have e3 : ((grid0.coords t 0).val * 8192 + s % 8192) / 8192 = (grid0.coords t 0).val := by omega
  have e4 : ((grid0.coords t 0).val * 8192 + s % 8192) % 8192 = s % 8192 := by omega
  simp only [e3, e4]

/-- What the body leaves at a point, in the lanes that are kept. -/
theorem after_apply (c : Dev nD) (t : Fin grid0.N) (h : Fin 8) (r : Fin 256) (l : Fin 64) :
    (dats m 0 c).after 4 t (ix3 h r ⟨l.val, by omega⟩) = attn (qA m c) (kA m c) (vA m c) (batOf t) h (rowOf t r) l := by
  rw [after0_4]
  refine (out0_apply _ _ _ _ _ (isTri m c t) h r ⟨l.val, by omega⟩).trans ?_
  rw [show zR (iblk m c 0 t) (iblk m c 1 t) h r = score (qA m c) (kA m c) (batOf t) h (rowOf t r) from funext (score_blk m c t h r),
    show vC (iblk m c 2 t) h ⟨l.val, by omega⟩ = col (vA m c) (batOf t) h l from funext (col_blk m c t h l)]
  rfl

end Cert.Val

end
-- ==== Proof.Val.Result.lean ====
/-
  The kernel program's result: the attention, entry by entry.
-/
module

public import proofs.«01_k».proof.Proof.Val.Windows

@[expose] public section

set_option maxRecDepth 16384

noncomputable section

namespace Cert.Val

open Cert.KernelIdeal Cert.KernelIdeal.Gen Cert.KernelIdeal.SB
open Idealize.ShloMosaic Idealize.ShloMosaic.TcCoe Idealize.ShloMosaic.Pipeline
open Idealize.SL Idealize.SL.Sem
open scoped BigOperators

variable (m : (ℓ : Loc nD τ sig) → Buf (Elt Ideal) ℓ) (ρ : Dev nD → PrngReg)

/-- The kernel's output array after the run. -/
abbrev outA (c : Dev nD) : S8x16384x128.Idx → EReal := (dats m 0 c).arrAt 4 (cfg0 (F := Ideal)).N

/-- An entry of it, in the lanes that are kept. -/
def Kept (c : Dev nD) (i : S8x16384x128.Idx) (v : EReal) : Prop :=
  ∀ hl : (i 2).val < 64, v = attn (qA m c) (kA m c) (vA m c) ⟨(i 1).val / 8192, by have : (i 1).val < 16384 := (i 1).isLt; omega⟩ (i 0)
    ⟨(i 1).val % 8192, Nat.mod_lt _ (by decide)⟩ ⟨(i 2).val, hl⟩

theorem after_kept (c : Dev nD) (t : Fin grid0.N) (y : S8x256x128.Idx) (i : S8x16384x128.Idx)
    (h0 : (i 0).val = (y 0).val) (h1 : (i 1).val = ((grid0.coords t 0).val * 32 + (grid0.coords t 1).val) * 256 + (y 1).val)
    (h2 : (i 2).val = (y 2).val) : Kept m c i ((dats m 0 c).after 4 t y) := by
  intro hl
  have hy1 : (y 1).val < 256 := (y 1).isLt
  have hc0 := coord0_lt t
  have hc1 := coord1_lt t
  have := after_apply m c t (y 0) (y 1) ⟨(y 2).val, by omega⟩
  have ey : y = ix3 (y 0) (y 1) ⟨(y 2).val, (y 2).isLt⟩ := by
    funext a; fin_cases a <;> rfl
  refine ((congrArg ((dats m 0 c).after 4 t) ey).trans this).trans ?_
  have a0 : y 0 = i 0 := Fin.ext h0.symm
  have a1 : batOf t = ⟨(i 1).val / 8192, by have : (i 1).val < 16384 := (i 1).isLt; omega⟩ := Fin.ext (by show (grid0.coords t 0).val = (i 1).val / 8192; omega)
  have a2 : rowOf t (y 1) = ⟨(i 1).val % 8192, Nat.mod_lt _ (by decide)⟩ := Fin.ext (by show 256 * (grid0.coords t 1).val + (y 1).val = (i 1).val % 8192; omega)
  have a3 : (⟨(y 2).val, by omega⟩ : Fin 64) = ⟨(i 2).val, hl⟩ := Fin.ext h2.symm
  rw [a0, a1, a2, a3]

theorem arr_kept (c : Dev nD) (i : S8x16384x128.Idx) : Kept m c i (outA m c i) := by
  refine (dats m 0 c).arrAt_forall_of_covers 4 (fun i v => Kept m c i v) (by decide +kernel) (fun t hf y => ?_) i
  refine after_kept m c t y _ ?_ ?_ ?_
  all_goals blk_simp [idx4 t]

theorem tail_apply (c : Dev nD) (B : Fin 2) (h : Fin 8) (t : Fin 8192) (d : Fin 64) :
    Pipeline.afterTail₀ (cfgs (F := Ideal)) (dats m) 0 (V0 m) [hostOps1] c main_v23 (ix4 B h t d)
      = attn (qA m c) (kA m c) (vA m c) B h t d := by
  unfold Pipeline.afterTail₀
  after_reads_at
  rw [show withArrays (cfgs (F := Ideal) 0).spec c (V0 m c) (fun w => (dats m 0 c).arrAt w (cfgs 0).N) (Proc.tc.devRef main_v19) = outA m c from
    withArrays_arr_shared _ c (V0 m c) _ ((dats m 0 c).arrAt_sharedIn sharedIn0 (V0 m c) (A_eq m c) _) 4]
  have ht := t.isLt
  refine (arr_kept m c (ix3 h ⟨B.val * 8192 + t.val, by omega⟩ ⟨d.val, by omega⟩) d.isLt).trans ?_
  have a1 : (⟨(B.val * 8192 + t.val) / 8192, by omega⟩ : Fin 2) = B := Fin.ext (by show (B.val * 8192 + t.val) / 8192 = B.val; omega)
  have a2 : (⟨(B.val * 8192 + t.val) % 8192, Nat.mod_lt _ (by decide)⟩ : Fin 8192) = t :=
    Fin.ext (by show (B.val * 8192 + t.val) % 8192 = t.val; omega)
  show attn _ _ _ ⟨(B.val * 8192 + t.val) / 8192, _⟩ h ⟨(B.val * 8192 + t.val) % 8192, _⟩ d = _
  rw [a1, a2]

/-- The kernel program runs to the attention of its arguments, which are as they were. -/
theorem run_kernel : θ_run defs (onTc (τ := τ) (main (F := Ideal))) ⟨m, fun _ => 0, ρ⟩ (fun r => ∀ c : Dev nD,
      r.2.mem ((c.tc : Thread nD τ).loc main_v23) = attnA (qA m c) (kA m c) (vA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v23 (Pipeline.mem_restRefs_of main_v23 (by decide) (by exact (by decide : ∀ w, Pipeline.arrRef spec0 w ≠ main_v23)))).trans
        (funext fun j => (congrArg (Pipeline.afterTail₀ (cfgs (F := Ideal)) (dats m) 0 (V0 m) [hostOps1] c main_v23) (ix4_eta j)).trans (tail_apply m c (j 0) (j 1) (j 2) (j 3))),
      (((h c).2 main_arg0 (Pipeline.mem_restRefs_of main_arg0 (by decide) (by exact (by decide : ∀ w, Pipeline.arrRef spec0 w ≠ main_arg0)))).trans (W_main_arg0 m _ c)),
      (((h c).2 main_arg1 (Pipeline.mem_restRefs_of main_arg1 (by decide) (by exact (by decide : ∀ w, Pipeline.arrRef spec0 w ≠ main_arg1)))).trans (W_main_arg1 m _ c)),
      (((h c).2 main_arg2 (Pipeline.mem_restRefs_of main_arg2 (by decide) (by exact (by decide : ∀ w, Pipeline.arrRef spec0 w ≠ main_arg2)))).trans (W_main_arg2 m _ c))⟩) (run_main m ρ)

end Cert.Val

end
-- ==== Proof.Val.Suffix.lean ====
/-
  A running sum from the end, as the plain text prints it, read at an entry.
-/
module

public import proofs.«01_k».proof.Proof.Gen.ReferenceIdeal.Run
public import proofs.«01_k».proof.Proof.Val.Spec

@[expose] public section

noncomputable section

namespace Cert.Val

open Cert.ReferenceIdeal
open Idealize.ShloMosaic Finset
open scoped BigOperators

/-- Adding up a list from a start. -/
theorem foldl_add_eq {ι : Type} (f : ι → EReal) (l : List ι) : ∀ v : EReal, l.foldl (fun r n => r + f n) v = v + (l.map f).sum := by
  induction l with
  | nil => intro v; exact (add_zero v).symm
  | cons a l ih => intro v; rw [List.foldl_cons, ih, List.map_cons, List.sum_cons, add_assoc]

/-- A window sum at an index: the start, and each window position's entry (the start again where the position is padding). -/
theorem windowSum {s t u : Shape} (window strides lo hi : Fin s.rank → Nat) (x : FVec Ideal s .f32) (init : FVec Ideal u .f32)
    (h : s.ReduceWindows window strides lo hi t) (hu : 0 < u.numel) (j : t.Idx) :
    Host.reduceWindowAdd (F := Ideal) window strides lo hi x init h hu j
      = (init (Shape.Idx.first hu) + ∑ w : (⟨s.rank, window⟩ : Shape).Idx,
          if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else init (Shape.Idx.first hu) : EReal) := by
  refine (foldl_add_eq _ _ _).trans ?_
  refine congrArg (fun z : EReal => init (Shape.Idx.first hu) + z) ?_
  rw [← List.ofFn_eq_map, List.sum_ofFn]
  refine (Finset.sum_congr rfl fun i _ => dite_congr rfl (fun _ => rfl) fun _ => rfl).trans (Equiv.sum_comp (⟨s.rank, window⟩ : Shape).rowMajor.symm (fun w : (⟨s.rank, window⟩ : Shape).Idx =>
    (if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else init (Shape.Idx.first hu) : EReal)))

/-- The window's positions: the last coordinate. -/
def winEquiv (N : Nat) : Fin N ≃ (⟨4, ![1, 1, 1, N]⟩ : Shape).Idx where
  toFun k := ix4 0 0 0 k
  invFun w := w 3
  left_inv _ := rfl
  right_inv w := by
    funext a
    fin_cases a
    · exact Fin.ext (by have : (w 0).val < 1 := (w 0).isLt; show 0 = (w 0).val; omega)
    · exact Fin.ext (by have : (w 1).val < 1 := (w 1).isLt; show 0 = (w 1).val; omega)
    · exact Fin.ext (by have : (w 2).val < 1 := (w 2).isLt; show 0 = (w 2).val; omega)
    · rfl

/-- Shifting the entries from `s` on to the front. -/
theorem sum_shift (N s : Nat) (f : Nat → EReal) : (∑ k : Fin N, if s + k.val < N then f (s + k.val) else 0) = ∑ r ∈ Ico s N, f r := by
  rw [Fin.sum_univ_eq_sum_range (fun k => if s + k < N then f (s + k) else 0) N, Finset.sum_Ico_eq_sum_range,
    ← Finset.sum_filter]
  refine Finset.sum_congr ?_ fun _ _ => rfl
  ext k
  simp only [Finset.mem_filter, Finset.mem_range]
  omega

/-- The window sum at `s`, the window as long as the axis and the padding at its end: the entries from `s` on. -/
theorem suffixSum {A B T N M : Nat} (x : FVec Ideal ⟨4, ![A, B, T, N]⟩ .f32) (y : Nat → EReal) {u : Shape} (init : FVec Ideal u .f32)
    (h : (⟨4, ![A, B, T, N]⟩ : Shape).ReduceWindows (![1, 1, 1, N] : Fin 4 → Nat) ![1, 1, 1, 1] ![0, 0, 0, 0] ![0, 0, 0, M] ⟨4, ![A, B, T, N]⟩)
    (hu : 0 < u.numel) (hi : init (Shape.Idx.first hu) = (0 : EReal)) (a : Fin A) (b : Fin B) (t : Fin T) (s : Fin N)
    (hy : ∀ k : Fin N, x (ix4 a b t k) = y k.val) :
    Host.reduceWindowAdd (F := Ideal) (s := ⟨4, ![A, B, T, N]⟩) ![1, 1, 1, N] ![1, 1, 1, 1] ![0, 0, 0, 0] ![0, 0, 0, M] x init h hu (ix4 a b t s)
      = ∑ r ∈ Ico s.val N, y r := by
  refine (windowSum (s := ⟨4, ![A, B, T, N]⟩) _ _ _ _ x init h hu _).trans ?_
  rw [hi, zero_add, ← sum_shift]
  refine (Equiv.sum_comp (winEquiv N) _).symm.trans ?_
  refine Finset.sum_congr rfl fun k _ => ?_
  split
  · next hin =>
    have h3 := (hin 3).2
    change s.val * 1 + k.val - 0 < N at h3
    rw [if_pos (by omega), ← hy ⟨s.val + k.val, by omega⟩]
    refine congrArg x (funext fun e => Fin.ext ?_)
    match e with
    | ⟨0, _⟩ => show a.val * 1 + 0 - 0 = a.val; omega
    | ⟨1, _⟩ => show b.val * 1 + 0 - 0 = b.val; omega
    | ⟨2, _⟩ => show t.val * 1 + 0 - 0 = t.val; omega
    | ⟨3, _⟩ => show s.val * 1 + k.val - 0 = s.val + k.val; omega
  · next hin =>
    rw [if_neg fun hlt => hin fun e => ?_]
    match e with
    | ⟨0, _⟩ => show 0 ≤ a.val * 1 + 0 ∧ a.val * 1 + 0 - 0 < A; have := a.isLt; omega
    | ⟨1, _⟩ => show 0 ≤ b.val * 1 + 0 ∧ b.val * 1 + 0 - 0 < B; have := b.isLt; omega
    | ⟨2, _⟩ => show 0 ≤ t.val * 1 + 0 ∧ t.val * 1 + 0 - 0 < T; have := t.isLt; omega
    | ⟨3, _⟩ => show 0 ≤ s.val * 1 + k.val ∧ s.val * 1 + k.val - 0 < N; omega

end Cert.Val

end
-- ==== Proof.Val.Ref.lean ====
/-
  The plain text's result, read at an entry: it is the attention.
-/
module

public import proofs.«01_k».proof.Proof.Val.Suffix

@[expose] public section

noncomputable section

namespace Cert.Val.Ref

open Cert.ReferenceIdeal Cert.ReferenceIdeal.Gen
open Idealize.ShloMosaic Idealize.ShloMosaic.Pointwise Finset
open scoped BigOperators

/-- The scores, as the text prints them. -/
def scoreR (q k : FVec Ideal S2x8x8192x64 .f32) : FVec Ideal S2x8x8192x8192 .f32 :=
  mulf (Host.dotGeneral dot_S2x8x8192x64_S2x8x8192x64_S2x8x8192x8192_3_3_2_2_01_01 none q k)
    (broadcastInDim S2x8x8192x8192 ![] bcast_S_S2x8x8192x8192 (constant S_ .f32 0x3E000000#32))

/-- Which keys a query sees, as the text prints it. -/
def maskR : IVec S2x8x8192x8192 1 :=
  broadcastInDim S2x8x8192x8192 ![2, 3] bcast_S8192x8192_S2x8x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- Zero at every entry. -/
def zeroR : FVec Ideal S2x8x8192x8192 .f32 := broadcastInDim S2x8x8192x8192 ![] bcast_S_S2x8x8192x8192 (constant S_ .f32 0x00000000#32)

/-- The log of one plus the exponential, negated, as the text prints it. -/
def nspR (y : FVec Ideal S2x8x8192x8192 .f32) : FVec Ideal S2x8x8192x8192 .f32 :=
  Host.negf (select (cmpf .une (subf y zeroR) (subf y zeroR)) (addf y zeroR)
    (addf (maximumf y zeroR) (Host.log1p (Host.exp (Host.negf (Host.absf (subf y zeroR)))))))

/-- The logs of what each key leaves. -/
def leaveR (z : FVec Ideal S2x8x8192x8192 .f32) : FVec Ideal S2x8x8192x8192 .f32 :=
  select maskR (nspR (Host.negf (Host.negf z))) zeroR

/-- The weights. -/
def weightR (z : FVec Ideal S2x8x8192x8192 .f32) : FVec Ideal S2x8x8192x8192 .f32 :=
  select maskR (Host.exp (addf (nspR (Host.negf z))
    (subf (Host.reduceWindowAdd ![1, 1, 1, 8192] ![1, 1, 1, 1] ![0, 0, 0, 0] ![0, 0, 0, 8191] (leaveR z)
      (broadcastInDim S_ ![] bcast_S_S_ (constant S_ .f32 0x00000000#32)) reduceWindows_S2x8x8192x8192_S2x8x8192x8192_w1s1p0_0_w1s1p0_0_w1s1p0_0_w8192s1p0_8191 h_S_)
      (leaveR z)))) zeroR

theorem result_eq (m : (ℓ : Loc nD τ sig) → Buf (Elt Ideal) ℓ) (c : Dev nD) :
    Cert.ReferenceIdeal.Value.res_main_v18 (F := Ideal) m c
      = Host.dotGeneral (φ₁ := .f32) (φ₂ := .f32) dot_S2x8x8192x8192_S2x8x8192x64_S2x8x8192x64_3_2_2_3_01_01 none
          (weightR (scoreR (m ((c.tc : Thread nD τ).loc main_arg0)) (m ((c.tc : Thread nD τ).loc main_arg1))))
          (m ((c.tc : Thread nD τ).loc main_arg2) : FVec Ideal S2x8x8192x64 .f32) := by
  unfold Cert.ReferenceIdeal.Value.res_main_v18
  rfl

theorem scoreR_apply (q k : FVec Ideal S2x8x8192x64 .f32) (B : Fin 2) (h : Fin 8) (t s : Fin 8192) :
    scoreR q k (ix4 B h t s) = score q k B h t s.val := by
  have e : (⟨s.val % 8192, Nat.mod_lt _ (by decide)⟩ : Fin 8192) = s := Fin.ext (Nat.mod_eq_of_lt s.isLt)
  unfold score
  rw [e]
  pointwise [scoreR]
  rfl

theorem maskR_apply (B : Fin 2) (h : Fin 8) (t s : Fin 8192) : maskR (ix4 B h t s) = BitVec.ofBool (decide (s.val < t.val)) := by
  pointwise [maskR]
  show BitVec.ofBool ((BitVec.ofNat 32 s.val).slt (BitVec.ofNat 32 t.val)) = _
  congr 1
  have hc := s.isLt
  have hr := t.isLt
  rw [BitVec.slt, BitVec.toInt_eq_toNat_of_lt (by simp; omega), BitVec.toInt_eq_toNat_of_lt (by simp; omega)]
  simp only [BitVec.toNat_ofNat, Nat.mod_eq_of_lt (show s.val < 2 ^ 32 by omega), Nat.mod_eq_of_lt (show t.val < 2 ^ 32 by omega),
    Nat.cast_lt]

theorem zeroR_apply (j : S2x8x8192x8192.Idx) : zeroR j = (0 : EReal) := Ideal.ofBits_zero_f32

theorem nspR_apply (y : FVec Ideal S2x8x8192x8192 .f32) (j : S2x8x8192x8192.Idx) : nspR y j = -sp (y j) := by
  show -(Scalar.select (Ideal.cmp .une (y j - zeroR j) (y j - zeroR j)) (y j + zeroR j)
    (max (y j) (zeroR j) + Ideal.log (1 + Ideal.exp (-(max (y j - zeroR j) (-(y j - zeroR j))))))) = _
  rw [zeroR_apply, show Ideal.cmp .une (y j - 0) (y j - 0) = BitVec.ofBool (decide (y j - 0 ≠ y j - 0)) from rfl,
    decide_eq_false (fun h => h rfl)]
  rfl

theorem pick (b : Prop) [Decidable b] (x y : EReal) : Scalar.select (BitVec.ofBool (decide b)) x y = if b then x else y := by
  by_cases h : b
  · rw [if_pos h, decide_eq_true h]; rfl
  · rw [if_neg h, decide_eq_false h]; rfl

theorem leaveR_apply (z : FVec Ideal S2x8x8192x8192 .f32) (y : ℕ → EReal) (B : Fin 2) (h : Fin 8) (t s : Fin 8192)
    (hy : z (ix4 B h t s) = y s.val) : leaveR z (ix4 B h t s) = lv t.val y s.val := by
  show Scalar.select (maskR (ix4 B h t s)) (nspR (Host.negf (Host.negf z)) (ix4 B h t s)) (zeroR (ix4 B h t s)) = _
  rw [maskR_apply, nspR_apply, zeroR_apply, pick]
  unfold lv
  rw [lg_eq, ← hy, show Host.negf (Host.negf z) (ix4 B h t s) = - -(z (ix4 B h t s)) from rfl, neg_neg]

theorem weightR_apply (z : FVec Ideal S2x8x8192x8192 .f32) (y : ℕ → EReal) (B : Fin 2) (h : Fin 8) (t s : Fin 8192)
    (hy : ∀ s : Fin 8192, z (ix4 B h t s) = y s.val) : weightR z (ix4 B h t s) = wt t.val y s.val := by
  have hS := suffixSum (A := 2) (B := 8) (T := 8192) (N := 8192) (leaveR z) (lv t.val y) (broadcastInDim S_ ![] bcast_S_S_ (constant S_ .f32 0x00000000#32))
    reduceWindows_S2x8x8192x8192_S2x8x8192x8192_w1s1p0_0_w1s1p0_0_w1s1p0_0_w8192s1p0_8191 h_S_ Ideal.ofBits_zero_f32 B h t s
    (fun k => leaveR_apply z y B h t k (hy k))
  show Scalar.select (maskR (ix4 B h t s)) (Ideal.exp (nspR (Host.negf z) (ix4 B h t s)
    + (Host.reduceWindowAdd ![1, 1, 1, 8192] ![1, 1, 1, 1] ![0, 0, 0, 0] ![0, 0, 0, 8191] (leaveR z)
      (broadcastInDim S_ ![] bcast_S_S_ (constant S_ .f32 0x00000000#32)) reduceWindows_S2x8x8192x8192_S2x8x8192x8192_w1s1p0_0_w1s1p0_0_w1s1p0_0_w8192s1p0_8191 h_S_ (ix4 B h t s)
      - leaveR z (ix4 B h t s)))) (zeroR (ix4 B h t s)) = _
  rw [hS, maskR_apply, nspR_apply, zeroR_apply, pick, leaveR_apply z y B h t s (hy s)]
  unfold wt suf ls
  rw [← hy, show Host.negf z (ix4 B h t s) = -(z (ix4 B h t s)) from rfl]

/-- The plain text's result is the attention. -/
theorem result_attn (m : (ℓ : Loc nD τ sig) → Buf (Elt Ideal) ℓ) (c : Dev nD) (q k v : SA.Idx → EReal)
    (hq : m ((c.tc : Thread nD τ).loc main_arg0) = q) (hk : m ((c.tc : Thread nD τ).loc main_arg1) = k)
    (hv : m ((c.tc : Thread nD τ).loc main_arg2) = v) :
    Cert.ReferenceIdeal.Value.res_main_v18 (F := Ideal) m c = attnA q k v := by
  rw [result_eq, hq, hk, hv]
  funext j
  rw [ix4_eta j]
  generalize j 0 = B
  generalize j 1 = h
  generalize j 2 = t
  generalize j 3 = d
  refine Eq.trans (b := ∑ s : Fin 8192, weightR (scoreR q k) (ix4 B h t s) * v (ix4 B h s d)) (by pointwise []) ?_
  show _ = gat t.val (score q k B h t) (col v B h d) 0
  unfold gat
  rw [← Finset.range_eq_Ico, ← Fin.sum_univ_eq_sum_range (fun s => wt t.val (score q k B h t) s * col v B h d s)]
  refine Finset.sum_congr rfl fun s _ => ?_
  rw [weightR_apply _ (score q k B h t) B h t s (fun s => scoreR_apply q k B h t s)]
  have e : (⟨s.val % 8192, Nat.mod_lt _ (by decide)⟩ : Fin 8192) = s := Fin.ext (Nat.mod_eq_of_lt s.isLt)
  unfold col
  rw [e]

end Cert.Val.Ref

end
-- ==== Proof.Val.Agree.lean ====
/-
  The kernel and the plain text compute the same array: the attention.
-/
module

public import proofs.«01_k».proof.Defs
public import proofs.«01_k».proof.Proof.Val.Result
public import proofs.«01_k».proof.Proof.Val.Ref

@[expose] public section

noncomputable section

namespace Cert.Val

open Idealize.ShloMosaic Idealize.SL.Sem

/-- Over the extended reals, from the same queries, keys and values, both programs end with the stick-breaking attention. -/
theorem agree : Cert.algebraic_KernelIdeal_ReferenceIdeal (hKernelIdeal := Cert.KernelIdeal.Gen.facts) (hReferenceIdeal := Cert.ReferenceIdeal.Gen.facts) :=
  fun m g m' g' _ hargs => ⟨fun c => attnA (qA m c) (kA m c) (vA m c), run_kernel m g,
    (θ_run Cert.ReferenceIdeal.defs _ _).mono (fun _ h c => ⟨((h c).1).trans (Ref.result_attn m' c _ _ _ (hargs c).1 (hargs c).2.1 (hargs c).2.2),
      (h c).2.1, (h c).2.2.1, (h c).2.2.2⟩) (Cert.ReferenceIdeal.Value.run m' g')⟩

end Cert.Val

end
-- ==== Proof.Proj.Spec.lean ====
/-
  The projections in plain words, entry by entry: a row divided by its root mean square, weighted, and multiplied by
  the columns of a matrix.
-/
module

public import Idealize.ShloMosaic.Lib.Pointwise
public import Idealize.ShloMosaic.Lib.IdealHost

@[expose] public section

noncomputable section

namespace Cert.Proj

open Idealize.ShloMosaic
open scoped BigOperators

/-- The shape of the layer's input. -/
abbrev SX : Shape := ⟨3, ![2, 8192, 1024]⟩
/-- The shape of a row of weights. -/
abbrev SG : Shape := ⟨2, ![1, 1024]⟩
/-- The shape of the matrix of the projections. -/
abbrev SW : Shape := ⟨3, ![1, 1024, 5120]⟩

/-- Entry `k` of a row over its root mean square, weighted. -/
def unit (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The row of token `t` of the input. -/
def row (x : SX.Idx → EReal) (t : ℕ) (k : Fin 1024) : EReal :=
  x (ix3 ⟨t / 8192 % 2, Nat.mod_lt _ (by decide)⟩ ⟨t % 8192, Nat.mod_lt _ (by decide)⟩ k)

/-- The weights of the normalization. -/
def wt (g : SG.Idx → EReal) (k : Fin 1024) : EReal := g (ix2 0 k)

/-- Column `n` of the projection of token `t`. -/
def proj (x : SX.Idx → EReal) (g : SG.Idx → EReal) (w : SW.Idx → EReal) (t : ℕ) (n : Fin 5120) : EReal :=
  ∑ k : Fin 1024, unit (row x t) (wt g) k * w (ix3 0 k n)

/-- A gate. -/
def gate (x : SX.Idx → EReal) (g : SG.Idx → EReal) (w : SW.Idx → EReal) (t : ℕ) (n : Fin 2048) : EReal :=
  Ideal.logistic (proj x g w t ⟨3072 + n.val, by omega⟩)

/-- The shape of the gates. -/
abbrev SGate : Shape := ⟨2, ![16384, 2048]⟩

/-- The gates, as an array. -/
def gateA (x : SX.Idx → EReal) (g : SG.Idx → EReal) (w : SW.Idx → EReal) : SGate.Idx → EReal := fun j => gate x g w (j 0).val (j 1)

end Cert.Proj

end
-- ==== Proof.Proj.Gates.lean ====
/-
  The gates' call: what its body leaves, over the extended reals, and the array that it makes.
-/
module

public import proofs.«01_k».proof.Proof.Proj.Spec
public import proofs.«01_k».proof.Proof.Gen.GatesIdeal.Value
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Cert.Proj.Gates

open Cert.GatesIdeal Cert.GatesIdeal.Gen
open Idealize.ShloMosaic Idealize.ShloMosaic.TcCoe Idealize.ShloMosaic.Pipeline Idealize.ShloMosaic.Pointwise
open Idealize.SL Idealize.SL.Sem
open scoped BigOperators

theorem pay1_apply (x : Vec Ideal S1024x1024 .f32) (g : Vec Ideal S1x1024 .f32) (r k : Fin 1024) :
    k0_pay1 x g (ix2 r k) = unit (fun k => x (ix2 r k)) (wt g) k := by
  pointwise [k0_pay1]
  rfl

theorem pay2_apply (u w : Vec Ideal S1024x1024 .bf16) (r n : Fin 1024) :
    k0_pay2 u w (ix2 r n) = Ideal.logistic (∑ k : Fin 1024, u (ix2 r k) * w (ix2 k n)) := by
  pointwise [k0_pay2]

theorem hz : (![0, 0] : Fin 2 → Nat) = fun _ => 0 := funext fun a => by fin_cases a <;> rfl

theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (hc : cond0_0 i)
    (x0 : Vec Ideal S1024x1024 .f32) (x1 : Vec Ideal S1x1024 .f32) (x2 : Vec Ideal S1024x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1x1024) hz]

theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (hc : cond0_0 i)
    (x0 : Vec Ideal S1024x1024 .f32) (x1 : Vec Ideal S1x1024 .f32) (x2 : Vec Ideal S1024x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (hc : ¬cond0_0 i)
    (x0 : Vec Ideal S1024x1024 .f32) (x1 : Vec Ideal S1x1024 .f32) (x2 xs : Vec Ideal S1024x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S1024x1024) hz]

variable (m : (ℓ : Loc nD τ sig) → Buf (Elt Ideal) ℓ) (ρ : Dev nD → PrngReg)

/-- The input, the weights and the matrix. -/
abbrev xA (c : Dev nD) : SX.Idx → EReal := m (c, Proc.tc.devRef main_arg0)
abbrev gA (c : Dev nD) : SG.Idx → EReal := m (c, Proc.tc.devRef main_arg1)
abbrev wA (c : Dev nD) : SW.Idx → EReal := m (c, Proc.tc.devRef main_arg2)

theorem x_at (c : Dev nD) (n : Fin 16384) (k : Fin 1024) : V m c main_v3 (ix2 n k) = row (xA m c) n.val k := by
  have e : n.val / 8192 % 2 = n.val / 8192 := Nat.mod_eq_of_lt (by omega)
  unfold row
  simp only [e]
  unfold V
  after_reads_at

theorem g_at (c : Dev nD) (k : Fin 1024) : V m c main_v5 (ix2 0 k) = wt (gA m c) k := by
  unfold V wt
  after_reads_at

theorem w_at (c : Dev nD) (k : Fin 1024) (n : Fin 2048) : V m c main_v2 (ix2 k n) = wA m c (ix3 0 k ⟨3072 + n.val, by omega⟩) := by
  unfold V
  after_reads_at

theorem idx0 : ∀ t : Fin grid0.N, win0_0.index t = ![t.val / 2, 0] := by decide +kernel
theorem idx1 : ∀ t : Fin grid0.N, win0_1.index t = ![0, 0] := by decide +kernel
theorem idx2 : ∀ t : Fin grid0.N, win0_2.index t = ![0, t.val % 2] := by decide +kernel
theorem idx3 : ∀ t : Fin grid0.N, win0_3.index t = ![t.val / 2, t.val % 2] := by decide +kernel

theorem lt32 (t : Fin grid0.N) : t.val < 32 := lt_of_lt_of_eq t.isLt N_0

theorem blk0 (c : Dev nD) (t : Fin grid0.N) (r k : Fin 1024) :
    iblk m c 0 t (ix2 r k) = V m c main_v3 (ix2 ⟨t.val / 2 * 1024 + r.val, by have := lt32 t; omega⟩ k) := by
  blk_ext [iblk, idx0 t]

theorem blk1 (c : Dev nD) (t : Fin grid0.N) (k : Fin 1024) : iblk m c 1 t (ix2 0 k) = V m c main_v5 (ix2 0 k) := by
  blk_ext [iblk, idx1 t]

theorem blk2 (c : Dev nD) (t : Fin grid0.N) (k n : Fin 1024) :
    iblk m c 2 t (ix2 k n) = V m c main_v2 (ix2 k ⟨t.val % 2 * 1024 + n.val, by omega⟩) := by
  blk_ext [iblk, idx2 t]

theorem blk0_row (c : Dev nD) (t : Fin grid0.N) (r : Fin 1024) :
    (fun k => iblk m c 0 t (ix2 r k)) = row (xA m c) (t.val / 2 * 1024 + r.val) :=
  funext fun k => (blk0 m c t r k).trans (x_at m c _ k)

theorem blk1_row (c : Dev nD) (t : Fin grid0.N) : wt (iblk m c 1 t) = wt (gA m c) :=
  funext fun k => (blk1 m c t k).trans (g_at m c k)

/-- What the body keeps between points: the rows of its block of tokens, normalized. -/
theorem kept_rows (c : Dev nD) : ∀ (n : ℕ) (hn : n < cfg0.N) (r k : Fin 1024),
    (outsAt0 m c n hn).2 (ix2 r k) = unit (row (xA m c) (n / 2 * 1024 + r.val)) (wt (gA m c)) k := by
  have hA : ∀ (t : Fin cfg0.N) (h0 : t.val % 2 = 0) (r k : Fin 1024),
      (outsAt0 m c t.val t.isLt).2 (ix2 r k) = unit (row (xA m c) (t.val / 2 * 1024 + r.val)) (wt (gA m c)) k := by
    intro t h0 r k
    rw [outsAt0_A m c t h0]
    dsimp only
    rw [sout_A, pay1_apply, blk0_row m c t r, blk1_row m c t]
  intro n
  induction n with
  | zero => exact fun hn r k => hA ⟨0, hn⟩ rfl r k
  | succ n ih =>
    intro hn r k
    by_cases h0 : (n + 1) % 2 = 0
    · exact hA ⟨n + 1, hn⟩ h0 r k
    · have e : (n + 1) / 2 = n / 2 := by omega
      have hB := outsAt0_B m c ⟨n + 1, hn⟩ h0
      dsimp only at hB
      rw [hB, e]
      dsimp only
      unfold sout0_B_0
      exact ih _ r k

/-- What the body leaves at a point. -/
theorem after_apply (c : Dev nD) (t : Fin cfg0.N) (r n : Fin 1024) :
    (dats m 0 c).after 3 t (ix2 r n)
      = gate (xA m c) (gA m c) (wA m c) (t.val / 2 * 1024 + r.val) ⟨t.val % 2 * 1024 + n.val, by omega⟩ := by
  have hw : ∀ u : Vec Ideal S1024x1024 .bf16, (∀ k, u (ix2 r k) = unit (row (xA m c) (t.val / 2 * 1024 + r.val)) (wt (gA m c)) k) →
      k0_pay2 u (iblk m c 2 t) (ix2 r n) = gate (xA m c) (gA m c) (wA m c) (t.val / 2 * 1024 + r.val) ⟨t.val % 2 * 1024 + n.val, by omega⟩ := by
    intro u hu
    rw [pay2_apply]
    unfold gate proj
    refine congrArg Ideal.logistic (Finset.sum_congr rfl fun k _ => ?_)
    rw [hu k, blk2, w_at]
  rw [after0_3]
  have hk := kept_rows m c t.val t.isLt r
  by_cases h0 : t.val % 2 = 0
  · rw [outsAt0_A m c t h0] at hk ⊢
    dsimp only at hk ⊢
    rw [out_A]
    refine hw _ fun k => ?_
    have := hk k
    rw [sout_A] at this
    exact this
  · rw [outsAt0_B m c t h0] at hk ⊢
    dsimp only at hk ⊢
    unfold sout0_B_0 at hk
    rw [out_B]
    exact hw _ hk

/-- The array after the run. -/
abbrev outA (c : Dev nD) : SGate.Idx → EReal := (dats m 0 c).arrAt 3 cfg0.N

theorem out_eq (c : Dev nD) : outA m c = gateA (xA m c) (gA m c) (wA m c) := by
  funext i
  refine (dats m 0 c).arrAt_forall_of_covers 3 (fun i v => v = gateA (xA m c) (gA m c) (wA m c) i) (by decide +kernel) (fun t hf y => ?_) i
  have ey : y = ix2 (y 0) (y 1) := by funext a; fin_cases a <;> rfl
  refine ((congrArg ((dats m 0 c).after 3 t) ey).trans (after_apply m c t (y 0) (y 1))).trans ?_
  unfold gateA
  refine congrArg₂ (gate (xA m c) (gA m c) (wA m c)) ?_ (Fin.ext ?_)
  all_goals blk_simp [idx3 t]

end Cert.Proj.Gates

end
-- ==== Proof.Proj.GatesRef.lean ====
/-
  The plain text of the gates, read at an entry; it and the gates' call make the same array.
-/
module

public import proofs.«01_k».proof.Defs
public import proofs.«01_k».proof.Proof.Proj.Gates
public import proofs.«01_k».proof.Proof.Gen.GatesReferenceIdeal.Run

@[expose] public section

noncomputable section

namespace Cert.Proj.GatesRef

open Cert.GatesReferenceIdeal Cert.GatesReferenceIdeal.Gen
open Idealize.ShloMosaic Idealize.ShloMosaic.Pointwise
open scoped BigOperators

/-- The rows, normalized, as the text prints them. -/
def unitR (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))

theorem unitR_apply (x : FVec Ideal S2x8192x1024 .f32) (g : FVec Ideal S1x1024 .f32) (B : Fin 2) (s : Fin 8192) (k : Fin 1024) :
    unitR x g (ix3 B s k) = unit (fun k => x (ix3 B s k)) (wt g) k := by
  pointwise [unitR]
  rfl

/-- The gates, as the text prints them. -/
def gateR (x : FVec Ideal S2x8192x1024 .f32) (g : FVec Ideal S1x1024 .f32) (w : FVec Ideal S1x1024x5120 .f32) : FVec Ideal S16384x2048 .bf16 :=
  truncf .bf16 (shapeCast _ (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (extractStridedSlice S2x8192x2048 ![0, 0, 3072] (Host.dotGeneral dot_S2x8192x1024_S1024x5120_S2x8192x5120_2_0_01_1_n_n none (unitR x g) (shapeCast _ w shapeCasts_S1x1024x5120_S1024x5120)) slices_S2x8192x5120_S2x8192x2048_0_0_3072))))) shapeCasts_S2x8192x2048_S16384x2048) bitsLt_bf16_f32

theorem one_eq : Ideal.ofBits .f32 0x3F800000#32 = 1 := by
  simp [Ideal.ofBits, Ideal.ieee, -EReal.coe_mul]
  norm_num

theorem gateR_apply (x : FVec Ideal S2x8192x1024 .f32) (g : FVec Ideal S1x1024 .f32) (w : FVec Ideal S1x1024x5120 .f32)
    (t : Fin 16384) (n : Fin 2048) : gateR x g w (ix2 t n) = gate x g w t.val n := by
  have e : t.val / 8192 % 2 = t.val / 8192 := Nat.mod_eq_of_lt (by omega)
  unfold gate proj Ideal.logistic row
  simp only [e]
  rw [← one_eq]
  pointwise [gateR]
  simp only [unitR_apply]

end Cert.Proj.GatesRef

namespace Cert.Proj

open Idealize.ShloMosaic Idealize.SL.Sem

theorem gates_result (x : SX.Idx → EReal) (g : SG.Idx → EReal) (w : SW.Idx → EReal) (x' : SX.Idx → EReal) (g' : SG.Idx → EReal) (w' : SW.Idx → EReal)
    (hx : x' = x) (hg : g' = g) (hw : w' = w) : GatesRef.gateR x' g' w' = gateA x g w := by
  subst hx hg hw
  funext j
  have ej : j = ix2 (j 0) (j 1) := by funext a; fin_cases a <;> rfl
  exact (congrArg (GatesRef.gateR x' g' w') ej).trans (GatesRef.gateR_apply x' g' w' (j 0) (j 1))

/-- Over the extended reals, from the same input, weights and matrix, both programs end with the gates. -/
theorem gates_agree : Cert.algebraic_GatesIdeal_GatesReferenceIdeal (hGatesIdeal := Cert.GatesIdeal.Gen.facts) (hGatesReferenceIdeal := Cert.GatesReferenceIdeal.Gen.facts) :=
  fun m g m' g' _ hargs => ⟨fun c => gateA (Gates.xA m c) (Gates.gA m c) (Gates.wA m c),
    (θ_run Cert.GatesIdeal.defs _ _).mono (fun _ h c => ⟨(h c).1.trans (Gates.out_eq m c), (h c).2⟩) (Cert.GatesIdeal.Value.run_blocks m g),
    (θ_run Cert.GatesReferenceIdeal.defs _ _).mono (fun _ h c => ⟨((h c).1).trans (gates_result _ _ _ _ _ _ (hargs c).1 (hargs c).2.1 (hargs c).2.2),
      (h c).2⟩) (Cert.GatesReferenceIdeal.Value.run m' g')⟩

end Cert.Proj

end
-- ==== Proof.Proj.MixSpec.lean ====
/-
  What follows the attentions, in plain words, entry by entry: the heads' outputs projected, gated, added and mixed into
  the input; the sum over the padded pairs of heads is the sum over the heads' lanes.
-/
module

public import proofs.«01_k».proof.Proof.Proj.Spec

@[expose] public section

noncomputable section

namespace Cert.Proj

open Idealize.ShloMosaic
open scoped BigOperators

/-- The shape of an attention's output. -/
abbrev SO : Shape := ⟨4, ![2, 8, 8192, 64]⟩
/-- The shape of the gates, by batch entry. -/
abbrev SGt : Shape := ⟨3, ![2, 8192, 2048]⟩
/-- The shape of an output projection. -/
abbrev SWo : Shape := ⟨3, ![1, 512, 1024]⟩
/-- The shape of the mixing matrix. -/
abbrev SWm : Shape := ⟨3, ![1, 1024, 1024]⟩
/-- The shape of the queries' matrix. -/
abbrev SWq : Shape := ⟨3, ![1, 1024, 2048]⟩
/-- The shape of the arrays by token. -/
abbrev ST : Shape := ⟨2, ![16384, 1024]⟩
abbrev STq : Shape := ⟨2, ![16384, 2048]⟩

/-- Batch entry and place of token `t`. -/
abbrev bat (t : ℕ) : Fin 2 := ⟨t / 8192 % 2, Nat.mod_lt _ (by decide)⟩
abbrev plc (t : ℕ) : Fin 8192 := ⟨t % 8192, Nat.mod_lt _ (by decide)⟩

/-- An attention's output at a token, projected. -/
def outp (o : SO.Idx → EReal) (w : SWo.Idx → EReal) (t : ℕ) (n : Fin 1024) : EReal :=
  ∑ k : Fin 512, o (ix4 (bat t) ⟨k.val / 64, by omega⟩ (plc t) ⟨k.val % 64, by omega⟩) * w (ix3 0 k n)

/-- The two, gated and added. -/
def mixed (a b : SO.Idx → EReal) (gt : SGt.Idx → EReal) (wa wb : SWo.Idx → EReal) (t : ℕ) (n : Fin 1024) : EReal :=
  gt (ix3 (bat t) (plc t) ⟨n.val, by omega⟩) * outp a wa t n + gt (ix3 (bat t) (plc t) ⟨1024 + n.val, by omega⟩) * outp b wb t n

/-- The input with the mix added. -/
def hid (x : SX.Idx → EReal) (a b : SO.Idx → EReal) (gt : SGt.Idx → EReal) (wa wb : SWo.Idx → EReal) (wm : SWm.Idx → EReal)
    (t : ℕ) (n : Fin 1024) : EReal :=
  row x t n + ∑ k : Fin 1024, mixed a b gt wa wb t k * wm (ix3 0 k n)

/-- A row times the queries' matrix. -/
def qry (u : Fin 1024 → EReal) (wq : SWq.Idx → EReal) (n : Fin 2048) : EReal := ∑ k : Fin 1024, u k * wq (ix3 0 k n)

/-- The three results, as arrays. -/
def hidA (x : SX.Idx → EReal) (a b : SO.Idx → EReal) (gt : SGt.Idx → EReal) (wa wb : SWo.Idx → EReal) (wm : SWm.Idx → EReal) :
    ST.Idx → EReal := fun j => hid x a b gt wa wb wm (j 0).val (j 1)

def nrmA (x : SX.Idx → EReal) (a b : SO.Idx → EReal) (gt : SGt.Idx → EReal) (wa wb : SWo.Idx → EReal) (wm : SWm.Idx → EReal)
    (g : SG.Idx → EReal) : ST.Idx → EReal := fun j => unit (hid x a b gt wa wb wm (j 0).val) (wt g) (j 1)

def qryA (x : SX.Idx → EReal) (a b : SO.Idx → EReal) (gt : SGt.Idx → EReal) (wa wb : SWo.Idx → EReal) (wm : SWm.Idx → EReal)
    (g : SG.Idx → EReal) (wq : SWq.Idx → EReal) : STq.Idx → EReal :=
  fun j => qry (unit (hid x a b gt wa wb wm (j 0).val) (wt g)) wq (j 1)

/-- A product over the 256 lanes of pair `i` of heads. -/
def pair (A : Fin 8 → Fin 128 → EReal) (W : Fin 4 → Fin 256 → EReal) (i : Fin 4) : EReal :=
  (∑ l : Fin 128, A ⟨2 * i.val, by omega⟩ l * W i ⟨l.val, by omega⟩) + ∑ l : Fin 128, A ⟨2 * i.val + 1, by omega⟩ l * W i ⟨128 + l.val, by omega⟩

/-- A sum over lanes of which the last half are nothing. -/
theorem half_sum (f : Fin 128 → EReal) (g : Fin 64 → EReal) (hlo : ∀ l : Fin 64, f ⟨l.val, by omega⟩ = g l)
    (hhi : ∀ l : Fin 64, f ⟨64 + l.val, by omega⟩ = 0) : ∑ l, f l = ∑ l, g l :=
  (Fin.sum_univ_add (a := 64) (b := 64) f).trans
    ((congrArg₂ (· + ·) (Finset.sum_congr rfl fun l _ => hlo l) (Finset.sum_eq_zero fun l _ => hhi l)).trans (add_zero _))

theorem pair_eq (a b : Fin 8 → Fin 64 → EReal) (A : Fin 8 → Fin 128 → EReal) (W : Fin 4 → Fin 256 → EReal)
    (hA : ∀ h l, A h l = if hl : l.val < 64 then a h ⟨l.val, hl⟩ else 0)
    (hW : ∀ i l, W i l = if hl : l.val % 128 < 64 then b ⟨2 * i.val + l.val / 128, by omega⟩ ⟨l.val % 128, hl⟩ else 0) (i : Fin 4) :
    pair A W i = (∑ d, a ⟨2 * i.val, by omega⟩ d * b ⟨2 * i.val, by omega⟩ d)
      + ∑ d, a ⟨2 * i.val + 1, by omega⟩ d * b ⟨2 * i.val + 1, by omega⟩ d := by
  refine congrArg₂ (· + ·) (half_sum _ _ (fun l => ?_) fun l => ?_) (half_sum _ _ (fun l => ?_) fun l => ?_)
  · have e1 : l.val % 128 = l.val := by omega
    have e2 : 2 * i.val + l.val / 128 = 2 * i.val := by omega
    simp only [hA, hW, e1, e2, l.isLt, dite_true, Fin.eta]
  · have e4 : ¬ 64 + l.val < 64 := by omega
    simp only [hA, e4, dite_false, zero_mul]
  · have e1 : (128 + l.val) % 128 = l.val := by omega
    have e2 : 2 * i.val + (128 + l.val) / 128 = 2 * i.val + 1 := by omega
    simp only [hA, hW, e1, e2, l.isLt, dite_true, Fin.eta]
  · have e4 : ¬ 64 + l.val < 64 := by omega
    simp only [hA, e4, dite_false, zero_mul]

/-- The four pairs are the 512 lanes of the eight heads. -/
theorem pairs_sum (a b : Fin 8 → Fin 64 → EReal) (A : Fin 8 → Fin 128 → EReal) (W : Fin 4 → Fin 256 → EReal)
    (hA : ∀ h l, A h l = if hl : l.val < 64 then a h ⟨l.val, hl⟩ else 0)
    (hW : ∀ i l, W i l = if hl : l.val % 128 < 64 then b ⟨2 * i.val + l.val / 128, by omega⟩ ⟨l.val % 128, hl⟩ else 0) :
    pair A W 0 + pair A W 1 + pair A W 2 + pair A W 3
      = ∑ k : Fin 512, a ⟨k.val / 64, by omega⟩ ⟨k.val % 64, by omega⟩ * b ⟨k.val / 64, by omega⟩ ⟨k.val % 64, by omega⟩ := by
  have h512 : ∑ k : Fin 512, a ⟨k.val / 64, by omega⟩ ⟨k.val % 64, by omega⟩ * b ⟨k.val / 64, by omega⟩ ⟨k.val % 64, by omega⟩
      = ∑ h : Fin 8, ∑ d : Fin 64, a h d * b h d := by
    rw [← Fintype.sum_prod_type']
    refine Fintype.sum_equiv (finProdFinEquiv (m := 8) (n := 64)).symm _ _ fun k => ?_
    rfl
  rw [h512, Fin.sum_univ_eight]
  simp only [pair_eq a b A W hA hW]
  simp only [← add_assoc]
  rfl

end Cert.Proj

end
-- ==== Proof.Proj.Mix.lean ====
/-
  The mixing call: what its body leaves, over the extended reals.
-/
module

public import proofs.«01_k».proof.Proof.Proj.MixSpec
public import proofs.«01_k».proof.Proof.Gen.MixIdeal.Value
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Cert.Proj.Mix

open Cert.MixIdeal Cert.MixIdeal.Gen
open Idealize.ShloMosaic Idealize.ShloMosaic.TcCoe Idealize.ShloMosaic.Pipeline Idealize.ShloMosaic.Pointwise
open Idealize.SL Idealize.SL.Sem
open scoped BigOperators

theorem hz : (![0, 0] : Fin 2 → Nat) = fun _ => 0 := funext fun a => by fin_cases a <;> rfl

theorem pay1_apply (h : FVec Ideal S512x1024 .f32) (g : Vec Ideal S1x1024 .f32) (r : Fin 512) (k : Fin 1024) :
    k0_pay1 h g (ix2 r k) = unit (fun k => h (ix2 r k)) (wt g) k := by
  pointwise [k0_pay1]
  rfl

theorem pay2_apply (h : FVec Ideal S512x1024 .f32) (g : Vec Ideal S1x1024 .f32) (w : Vec Ideal S1024x2048 .bf16) (r : Fin 512) (n : Fin 2048) :
    k0_pay2 h g w (ix2 r n) = ∑ k : Fin 1024, unit (fun k => h (ix2 r k)) (wt g) k * w (ix2 k n) := by
  pointwise [k0_pay2]
  simp only [pay1_apply]

variable (x0 : Vec Ideal S512x1024 .f32) (x1 x2 : Vec Ideal S8x512x128 .bf16) (x3 : Vec Ideal S512x2048 .bf16)
  (x4 x5 : Vec Ideal S4x256x1024 .bf16) (x6 : Vec Ideal S1024x1024 .bf16) (x7 : Vec Ideal S1x1024 .f32) (x8 : Vec Ideal S1024x2048 .bf16)

/-- The four pairs of heads. -/
abbrev pairs (x : Vec Ideal S8x512x128 .bf16) (w : Vec Ideal S4x256x1024 .bf16) (r : Fin 512) (n : Fin 1024) : EReal :=
  pair (fun h l => x (ix3 h r l)) (fun i l => w (ix3 i l n)) 0 + pair (fun h l => x (ix3 h r l)) (fun i l => w (ix3 i l n)) 1
    + pair (fun h l => x (ix3 h r l)) (fun i l => w (ix3 i l n)) 2 + pair (fun h l => x (ix3 h r l)) (fun i l => w (ix3 i l n)) 3

theorem pay8_apply (r : Fin 512) (n : Fin 1024) : k0_pay8 x0 x1 x2 x3 x4 x5 x6 x7 x8 (ix2 r n) = pairs x1 x4 r n := by
  pointwise [k0_pay8, k0_pay3, k0_pay4]
  rfl

theorem pay11_apply (r : Fin 512) (n : Fin 1024) : k0_pay11 x0 x1 x2 x3 x4 x5 x6 x7 x8 (ix2 r n)
    = x0 (ix2 r n) + ∑ k : Fin 1024, (x3 (ix2 r ⟨k.val, by omega⟩) * pairs x1 x4 r k + x3 (ix2 r ⟨1024 + k.val, by omega⟩) * pairs x2 x5 r k) * x6 (ix2 k n) := by
  simp only [← pay8_apply x0 x1 x2 x3 x4 x5 x6 x7 x8]
  pointwise [k0_pay11, k0_pay7, k0_pay9, k0_pay5, k0_pay10, k0_pay6]
  rfl

theorem out9_eq : out0_9 x0 x1 x2 x3 x4 x5 x6 x7 x8 = k0_pay11 x0 x1 x2 x3 x4 x5 x6 x7 x8 := by
  unfold out0_9 k0_pay11
  rw [View.canon_unit_zero hz]

theorem out10_eq : out0_10 x0 x1 x2 x3 x4 x5 x6 x7 x8 = k0_pay1 (k0_pay11 x0 x1 x2 x3 x4 x5 x6 x7 x8) x7 := by
  unfold out0_10
  rw [View.canon_unit_zero hz, View.ld_unit_zero (S := S1x1024) hz]

theorem out11_eq : out0_11 x0 x1 x2 x3 x4 x5 x6 x7 x8 = k0_pay2 (k0_pay11 x0 x1 x2 x3 x4 x5 x6 x7 x8) x7 x8 := by
  unfold out0_11
  rw [View.canon_unit_zero hz, View.ld_unit_zero (S := S1x1024) hz, View.ld_unit_zero (S := S1024x2048) hz]

end Cert.Proj.Mix

end
-- ==== Proof.Proj.MixHost.lean ====
/-
  What the host lines before the mixing call leave it.
-/
module

public import proofs.«01_k».proof.Proof.Proj.Mix
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Cert.Proj.Mix

open Cert.MixIdeal Cert.MixIdeal.Gen
open Idealize.ShloMosaic Idealize.ShloMosaic.TcCoe Idealize.ShloMosaic.Pipeline Idealize.ShloMosaic.Pointwise
open Idealize.SL Idealize.SL.Sem
open scoped BigOperators

variable (m : (ℓ : Loc nD τ sig) → Buf (Elt Ideal) ℓ) (ρ : Dev nD → PrngReg)

/-- The input, the two attentions, the gates and the matrices. -/
abbrev xA (c : Dev nD) : SX.Idx → EReal := m (c, Proc.tc.devRef main_arg0)
abbrev aA (c : Dev nD) : SO.Idx → EReal := m (c, Proc.tc.devRef main_arg1)
abbrev bA (c : Dev nD) : SO.Idx → EReal := m (c, Proc.tc.devRef main_arg2)
abbrev gtA (c : Dev nD) : SGt.Idx → EReal := m (c, Proc.tc.devRef main_arg3)
abbrev waA (c : Dev nD) : SWo.Idx → EReal := m (c, Proc.tc.devRef main_arg4)
abbrev wbA (c : Dev nD) : SWo.Idx → EReal := m (c, Proc.tc.devRef main_arg5)
abbrev wmA (c : Dev nD) : SWm.Idx → EReal := m (c, Proc.tc.devRef main_arg6)
abbrev gA (c : Dev nD) : SG.Idx → EReal := m (c, Proc.tc.devRef main_arg7)
abbrev wqA (c : Dev nD) : SWq.Idx → EReal := m (c, Proc.tc.devRef main_arg8)

theorem sitofp_zero : FloatOps.sitofp (F := Ideal) FTy.f32 (0#32) = (0 : EReal) := by
  show (((0#32).toInt : ℝ) : EReal) = 0
  simp

theorem x_at (c : Dev nD) (n : Fin 16384) (k : Fin 1024) : V m c main_v0 (ix2 n k) = row (xA m c) n.val k := by
  have e : n.val / 8192 % 2 = n.val / 8192 := Nat.mod_eq_of_lt (by omega)
  unfold row
  simp only [e]
  unfold V
  after_reads_at

theorem bat_eq (n : Fin 16384) : bat n.val = ⟨n.val / 8192, by omega⟩ := Fin.ext (Nat.mod_eq_of_lt (by omega))

theorem gt_at (c : Dev nD) (n : Fin 16384) (k : Fin 2048) : V m c main_v10 (ix2 n k) = gtA m c (ix3 (bat n.val) (plc n.val) k) := by
  rw [bat_eq]
  unfold V
  after_reads_at

theorem a_at (c : Dev nD) (h : Fin 8) (n : Fin 16384) (l : Fin 128) : V m c main_v4 (ix3 h n l)
    = if hl : l.val < 64 then aA m c (ix4 (bat n.val) h (plc n.val) ⟨l.val, hl⟩) else (0 : EReal) := by
  rw [bat_eq]
  generalize hR : (if hl : l.val < 64 then _ else (0 : EReal)) = R
  unfold V
  after_reads_at
  simp only [h.isLt, true_and, Fin.eta, sitofp_zero]
  exact hR

theorem b_at (c : Dev nD) (h : Fin 8) (n : Fin 16384) (l : Fin 128) : V m c main_v8 (ix3 h n l)
    = if hl : l.val < 64 then bA m c (ix4 (bat n.val) h (plc n.val) ⟨l.val, hl⟩) else (0 : EReal) := by
  rw [bat_eq]
  generalize hR : (if hl : l.val < 64 then _ else (0 : EReal)) = R
  unfold V
  after_reads_at
  simp only [h.isLt, true_and, Fin.eta, sitofp_zero]
  exact hR

theorem wa_at (c : Dev nD) (i : Fin 4) (l : Fin 256) (n : Fin 1024) : V m c main_v15 (ix3 i l n)
    = if hl : l.val % 128 < 64 then waA m c (ix3 0 ⟨(i.val * 2 + l.val / 128) * 64 + l.val % 128, by omega⟩ n) else (0 : EReal) := by
  have e : i.val * 2 + l.val / 128 < 8 := by omega
  generalize hR : (if hl : l.val % 128 < 64 then _ else (0 : EReal)) = R
  unfold V
  after_reads_at
  simp only [e, true_and, sitofp_zero]
  exact hR

theorem wb_at (c : Dev nD) (i : Fin 4) (l : Fin 256) (n : Fin 1024) : V m c main_v20 (ix3 i l n)
    = if hl : l.val % 128 < 64 then wbA m c (ix3 0 ⟨(i.val * 2 + l.val / 128) * 64 + l.val % 128, by omega⟩ n) else (0 : EReal) := by
  have e : i.val * 2 + l.val / 128 < 8 := by omega
  generalize hR : (if hl : l.val % 128 < 64 then _ else (0 : EReal)) = R
  unfold V
  after_reads_at
  simp only [e, true_and, sitofp_zero]
  exact hR

theorem wm_at (c : Dev nD) (k n : Fin 1024) : V m c main_v22 (ix2 k n) = wmA m c (ix3 0 k n) := by
  unfold V
  after_reads_at

theorem g_at (c : Dev nD) (k : Fin 1024) : V m c main_v24 (ix2 0 k) = wt (gA m c) k := by
  unfold V wt
  after_reads_at

theorem wq_at (c : Dev nD) (k : Fin 1024) (n : Fin 2048) : V m c main_v26 (ix2 k n) = wqA m c (ix3 0 k n) := by
  unfold V
  after_reads_at

end Cert.Proj.Mix

end
-- ==== Proof.Proj.MixBlocks.lean ====
/-
  The blocks that the mixing call reads at a grid point.
-/
module

public import proofs.«01_k».proof.Proof.Proj.MixHost
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Cert.Proj.Mix

open Cert.MixIdeal Cert.MixIdeal.Gen
open Idealize.ShloMosaic Idealize.ShloMosaic.TcCoe Idealize.ShloMosaic.Pipeline Idealize.ShloMosaic.Pointwise
open Idealize.SL Idealize.SL.Sem
open scoped BigOperators

variable (m : (ℓ : Loc nD τ sig) → Buf (Elt Ideal) ℓ) (ρ : Dev nD → PrngReg)

theorem idx0 : ∀ t : Fin grid0.N, win0_0.index t = ![t.val, 0] := by decide +kernel
theorem idx1 : ∀ t : Fin grid0.N, win0_1.index t = ![0, t.val, 0] := by decide +kernel
theorem idx2 : ∀ t : Fin grid0.N, win0_2.index t = ![0, t.val, 0] := by decide +kernel
theorem idx3 : ∀ t : Fin grid0.N, win0_3.index t = ![t.val, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel

theorem lt32 (t : Fin grid0.N) : t.val < 32 := lt_of_lt_of_eq t.isLt N_0

/-- The token of row `r` of a point's block. -/
abbrev tok (t : Fin grid0.N) (r : Fin 512) : Fin 16384 := ⟨t.val * 512 + r.val, by have := lt32 t; omega⟩

theorem blk0 (c : Dev nD) (t : Fin grid0.N) (r : Fin 512) (k : Fin 1024) : iblk m c 0 t (ix2 r k) = V m c main_v0 (ix2 (tok t r) k) := by
  blk_ext [iblk, idx0 t]
theorem blk1 (c : Dev nD) (t : Fin grid0.N) (h : Fin 8) (r : Fin 512) (l : Fin 128) :
    iblk m c 1 t (ix3 h r l) = V m c main_v4 (ix3 h (tok t r) l) := by
  blk_ext [iblk, idx1 t]
theorem blk2 (c : Dev nD) (t : Fin grid0.N) (h : Fin 8) (r : Fin 512) (l : Fin 128) :
    iblk m c 2 t (ix3 h r l) = V m c main_v8 (ix3 h (tok t r) l) := by
  blk_ext [iblk, idx2 t]
theorem blk3 (c : Dev nD) (t : Fin grid0.N) (r : Fin 512) (k : Fin 2048) : iblk m c 3 t (ix2 r k) = V m c main_v10 (ix2 (tok t r) k) := by
  blk_ext [iblk, idx3 t]
theorem blk4 (c : Dev nD) (t : Fin grid0.N) (i : Fin 4) (l : Fin 256) (n : Fin 1024) : iblk m c 4 t (ix3 i l n) = V m c main_v15 (ix3 i l n) := by
  blk_ext [iblk, idx4 t]
theorem blk5 (c : Dev nD) (t : Fin grid0.N) (i : Fin 4) (l : Fin 256) (n : Fin 1024) : iblk m c 5 t (ix3 i l n) = V m c main_v20 (ix3 i l n) := by
  blk_ext [iblk, idx5 t]
theorem blk6 (c : Dev nD) (t : Fin grid0.N) (k n : Fin 1024) : iblk m c 6 t (ix2 k n) = V m c main_v22 (ix2 k n) := by
  blk_ext [iblk, idx6 t]
theorem blk7 (c : Dev nD) (t : Fin grid0.N) (k : Fin 1024) : iblk m c 7 t (ix2 0 k) = V m c main_v24 (ix2 0 k) := by
  blk_ext [iblk, idx7 t]
theorem blk8 (c : Dev nD) (t : Fin grid0.N) (k : Fin 1024) (n : Fin 2048) : iblk m c 8 t (ix2 k n) = V m c main_v26 (ix2 k n) := by
  blk_ext [iblk, idx8 t]

/-- The pairs of heads of a point's block are the token's projected output. -/
theorem pairs_outp (o : SO.Idx → EReal) (w : SWo.Idx → EReal) (X : Vec Ideal S8x512x128 .bf16) (W : Vec Ideal S4x256x1024 .bf16)
    (t : ℕ) (r : Fin 512) (n : Fin 1024)
    (hX : ∀ h l, X (ix3 h r l) = if hl : l.val < 64 then o (ix4 (bat t) h (plc t) ⟨l.val, hl⟩) else (0 : EReal))
    (hW : ∀ i l, W (ix3 i l n) = if hl : l.val % 128 < 64 then w (ix3 0 ⟨(i.val * 2 + l.val / 128) * 64 + l.val % 128, by omega⟩ n) else (0 : EReal)) :
    pairs X W r n = outp o w t n := by
  refine (pairs_sum (fun h d => o (ix4 (bat t) h (plc t) d)) (fun h d => w (ix3 0 ⟨h.val * 64 + d.val, by omega⟩ n)) _ _ hX (fun i l => ?_)).trans ?_
  · have e : 2 * i.val = i.val * 2 := Nat.mul_comm _ _
    simp only [e]
    exact hW i l
  · unfold outp
    refine Finset.sum_congr rfl fun k _ => ?_
    have e : k.val / 64 * 64 + k.val % 64 = k.val := by omega
    simp only [e]

end Cert.Proj.Mix

end
-- ==== Proof.Proj.MixArr.lean ====
/-
  The arrays that the mixing call makes.
-/
module

public import proofs.«01_k».proof.Proof.Proj.MixBlocks
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Cert.Proj.Mix

open Cert.MixIdeal Cert.MixIdeal.Gen
open Idealize.ShloMosaic Idealize.ShloMosaic.TcCoe Idealize.ShloMosaic.Pipeline Idealize.ShloMosaic.Pointwise
open Idealize.SL Idealize.SL.Sem
open scoped BigOperators

variable (m : (ℓ : Loc nD τ sig) → Buf (Elt Ideal) ℓ) (ρ : Dev nD → PrngReg)

/-- The row of the hidden state that a point's block makes. -/
theorem hid_row (c : Dev nD) (t : Fin grid0.N) (r : Fin 512) :
    (fun k => k0_pay11 (iblk m c 0 t) (iblk m c 1 t) (iblk m c 2 t) (iblk m c 3 t) (iblk m c 4 t) (iblk m c 5 t) (iblk m c 6 t) (iblk m c 7 t) (iblk m c 8 t) (ix2 r k))
      = hid (xA m c) (aA m c) (bA m c) (gtA m c) (waA m c) (wbA m c) (wmA m c) (t.val * 512 + r.val) := by
  funext n
  rw [pay11_apply]
  unfold hid mixed
  refine congrArg₂ (· + ·) ((blk0 m c t r n).trans (x_at m c _ n)) (Finset.sum_congr rfl fun k _ => ?_)
  rw [blk3, blk3, gt_at, gt_at, blk6, wm_at,
    pairs_outp (aA m c) (waA m c) (iblk m c 1 t) (iblk m c 4 t) (t.val * 512 + r.val) r k (fun h l => (blk1 m c t h r l).trans (a_at m c h _ l)) (fun i l => (blk4 m c t i l k).trans (wa_at m c i l k)),
    pairs_outp (bA m c) (wbA m c) (iblk m c 2 t) (iblk m c 5 t) (t.val * 512 + r.val) r k (fun h l => (blk2 m c t h r l).trans (b_at m c h _ l)) (fun i l => (blk5 m c t i l k).trans (wb_at m c i l k))]

theorem blk7_row (c : Dev nD) (t : Fin grid0.N) : wt (iblk m c 7 t) = wt (gA m c) :=
  funext fun k => (blk7 m c t k).trans (g_at m c k)

theorem after9_apply (c : Dev nD) (t : Fin cfg0.N) (r : Fin 512) (n : Fin 1024) :
    (dats m 0 c).after 9 t (ix2 r n) = hid (xA m c) (aA m c) (bA m c) (gtA m c) (waA m c) (wbA m c) (wmA m c) (t.val * 512 + r.val) n := by
  rw [after0_9, out9_eq]
  exact congrFun (hid_row m c t r) n

theorem after10_apply (c : Dev nD) (t : Fin cfg0.N) (r : Fin 512) (n : Fin 1024) :
    (dats m 0 c).after 10 t (ix2 r n)
      = unit (hid (xA m c) (aA m c) (bA m c) (gtA m c) (waA m c) (wbA m c) (wmA m c) (t.val * 512 + r.val)) (wt (gA m c)) n := by
  rw [after0_10, out10_eq, pay1_apply, hid_row, blk7_row]

theorem after11_apply (c : Dev nD) (t : Fin cfg0.N) (r : Fin 512) (n : Fin 2048) :
    (dats m 0 c).after 11 t (ix2 r n)
      = qry (unit (hid (xA m c) (aA m c) (bA m c) (gtA m c) (waA m c) (wbA m c) (wmA m c) (t.val * 512 + r.val)) (wt (gA m c))) (wqA m c) n := by
  rw [after0_11, out11_eq, pay2_apply, hid_row, blk7_row]
  have e : ∀ u a b : Fin 1024 → EReal, (∀ k, a k = b k) → ∑ k, u k * a k = ∑ k, u k * b k :=
    fun u a b h => Finset.sum_congr rfl fun k _ => congrArg (u k * ·) (h k)
  exact e _ _ _ fun k => (blk8 m c t k n).trans (wq_at m c k n)

/-- The arrays after the run. -/
abbrev out9A (c : Dev nD) : ST.Idx → EReal := (dats m 0 c).arrAt 9 cfg0.N
abbrev out10A (c : Dev nD) : ST.Idx → EReal := (dats m 0 c).arrAt 10 cfg0.N
abbrev out11A (c : Dev nD) : STq.Idx → EReal := (dats m 0 c).arrAt 11 cfg0.N

theorem out9A_eq (c : Dev nD) : out9A m c = hidA (xA m c) (aA m c) (bA m c) (gtA m c) (waA m c) (wbA m c) (wmA m c) := by
  funext i
  refine (dats m 0 c).arrAt_forall_of_covers 9 (fun i v => v = hidA (xA m c) (aA m c) (bA m c) (gtA m c) (waA m c) (wbA m c) (wmA m c) i)
    (by decide +kernel) (fun t hf y => ?_) i
  have ey : y = ix2 (y 0) (y 1) := by funext a; fin_cases a <;> rfl
  refine ((congrArg ((dats m 0 c).after 9 t) ey).trans (after9_apply m c t (y 0) (y 1))).trans ?_
  unfold hidA
  refine congrArg₂ (hid (xA m c) (aA m c) (bA m c) (gtA m c) (waA m c) (wbA m c) (wmA m c)) ?_ (Fin.ext ?_)
  all_goals blk_simp [idx9 t]

theorem out10A_eq (c : Dev nD) : out10A m c = nrmA (xA m c) (aA m c) (bA m c) (gtA m c) (waA m c) (wbA m c) (wmA m c) (gA m c) := by
  funext i
  refine (dats m 0 c).arrAt_forall_of_covers 10 (fun i v => v = nrmA (xA m c) (aA m c) (bA m c) (gtA m c) (waA m c) (wbA m c) (wmA m c) (gA m c) i)
    (by decide +kernel) (fun t hf y => ?_) i
  have ey : y = ix2 (y 0) (y 1) := by funext a; fin_cases a <;> rfl
  refine ((congrArg ((dats m 0 c).after 10 t) ey).trans (after10_apply m c t (y 0) (y 1))).trans ?_
  unfold nrmA
  refine congrArg₂ (fun (s : ℕ) (n : Fin 1024) => unit (hid (xA m c) (aA m c) (bA m c) (gtA m c) (waA m c) (wbA m c) (wmA m c) s) (wt (gA m c)) n) ?_ (Fin.ext ?_)
  all_goals blk_simp [idx10 t]

theorem out11A_eq (c : Dev nD) : out11A m c = qryA (xA m c) (aA m c) (bA m c) (gtA m c) (waA m c) (wbA m c) (wmA m c) (gA m c) (wqA m c) := by
  funext i
  refine (dats m 0 c).arrAt_forall_of_covers 11 (fun i v => v = qryA (xA m c) (aA m c) (bA m c) (gtA m c) (waA m c) (wbA m c) (wmA m c) (gA m c) (wqA m c) i)
    (by decide +kernel) (fun t hf y => ?_) i
  have ey : y = ix2 (y 0) (y 1) := by funext a; fin_cases a <;> rfl
  refine ((congrArg ((dats m 0 c).after 11 t) ey).trans (after11_apply m c t (y 0) (y 1))).trans ?_
  unfold qryA
  refine congrArg₂ (fun (s : ℕ) (n : Fin 2048) => qry (unit (hid (xA m c) (aA m c) (bA m c) (gtA m c) (waA m c) (wbA m c) (wmA m c) s) (wt (gA m c))) (wqA m c) n) ?_ (Fin.ext ?_)
  all_goals blk_simp [idx11 t]

end Cert.Proj.Mix

end
-- ==== Proof.Proj.MixRef.lean ====
/-
  The plain text of the mixing call, read at an entry; it and the call make the same three arrays.
-/
module

public import proofs.«01_k».proof.Defs
public import proofs.«01_k».proof.Proof.Proj.MixArr
public import proofs.«01_k».proof.Proof.Gen.MixIdeal.Value
public import proofs.«01_k».proof.Proof.Gen.MixReferenceIdeal.Run

@[expose] public section

noncomputable section

namespace Cert.Proj.MixRef

open Cert.MixReferenceIdeal Cert.MixReferenceIdeal.Gen
open Idealize.ShloMosaic Idealize.ShloMosaic.Pointwise
open scoped BigOperators

/-- An attention's output, projected, as the text prints it. -/
def outR (o : FVec Ideal S2x8x8192x64 .f32) (w : FVec Ideal S1x512x1024 .f32) : FVec Ideal S2x8192x1024 .f32 :=
  Host.dotGeneral dot_S2x8192x512_S512x1024_S2x8192x1024_2_0_01_1_n_n none (shapeCast _ (transpose S2x8192x8x64 [0, 2, 1, 3] o transposes_S2x8x8192x64_S2x8192x8x64_0_2_1_3) shapeCasts_S2x8192x8x64_S2x8192x512) (shapeCast _ w shapeCasts_S1x512x1024_S512x1024)

theorem outR_apply (o : FVec Ideal S2x8x8192x64 .f32) (w : FVec Ideal S1x512x1024 .f32) (t : Fin 16384) (n : Fin 1024) :
    outR o w (ix3 (bat t.val) (plc t.val) n) = outp o w t.val n := by
  unfold outp
  generalize bat t.val = B
  generalize plc t.val = s
  pointwise [outR]

/-- The two, gated and added. -/
def mixR (a b : FVec Ideal S2x8x8192x64 .f32) (gt : FVec Ideal S2x8192x2048 .f32) (wa wb : FVec Ideal S1x512x1024 .f32) : FVec Ideal S2x8192x1024 .f32 :=
  addf (mulf (extractStridedSlice S2x8192x1024 ![0, 0, 0] gt slices_S2x8192x2048_S2x8192x1024_0_0_0) (outR a wa)) (mulf (extractStridedSlice S2x8192x1024 ![0, 0, 1024] gt slices_S2x8192x2048_S2x8192x1024_0_0_1024) (outR b wb))

theorem mixR_apply (a b : FVec Ideal S2x8x8192x64 .f32) (gt : FVec Ideal S2x8192x2048 .f32) (wa wb : FVec Ideal S1x512x1024 .f32) (t : Fin 16384) (n : Fin 1024) :
    mixR a b gt wa wb (ix3 (bat t.val) (plc t.val) n) = mixed a b gt wa wb t.val n := by
  unfold mixed
  rw [← outR_apply, ← outR_apply]
  generalize bat t.val = B
  generalize plc t.val = s
  pointwise [mixR]

/-- The hidden state, as the text prints it. -/
def hR (x : FVec Ideal S2x8192x1024 .f32) (a b : FVec Ideal S2x8x8192x64 .f32) (gt : FVec Ideal S2x8192x2048 .f32) (wa wb : FVec Ideal S1x512x1024 .f32)
    (wm : FVec Ideal S1x1024x1024 .f32) : FVec Ideal S2x8192x1024 .f32 :=
  addf x (Host.dotGeneral dot_S2x8192x1024_S1024x1024_S2x8192x1024_2_0_01_1_n_n none (mixR a b gt wa wb) (shapeCast _ wm shapeCasts_S1x1024x1024_S1024x1024))

theorem hR_apply (x : FVec Ideal S2x8192x1024 .f32) (a b : FVec Ideal S2x8x8192x64 .f32) (gt : FVec Ideal S2x8192x2048 .f32) (wa wb : FVec Ideal S1x512x1024 .f32)
    (wm : FVec Ideal S1x1024x1024 .f32) (t : Fin 16384) (n : Fin 1024) :
    hR x a b gt wa wb wm (ix3 (bat t.val) (plc t.val) n) = hid x a b gt wa wb wm t.val n := by
  have h : hid x a b gt wa wb wm t.val n = x (ix3 (bat t.val) (plc t.val) n) + ∑ k : Fin 1024, mixR a b gt wa wb (ix3 (bat t.val) (plc t.val) k) * wm (ix3 0 k n) := by
    simp only [mixR_apply]
    rfl
  rw [h]
  generalize bat t.val = B
  generalize plc t.val = s
  pointwise [hR]

/-- The rows, normalized, as the text prints them. -/
def unitR (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))

theorem unitR_apply (x : FVec Ideal S2x8192x1024 .f32) (g : FVec Ideal S1x1024 .f32) (B : Fin 2) (s : Fin 8192) (k : Fin 1024) :
    unitR x g (ix3 B s k) = unit (fun k => x (ix3 B s k)) (wt g) k := by
  pointwise [unitR]
  rfl

/-- The rows by token, and the queries, as the text prints them. -/
def flatR (h : FVec Ideal S2x8192x1024 .f32) : FVec Ideal S16384x1024 .f32 := shapeCast _ h shapeCasts_S2x8192x1024_S16384x1024
def narrowR (h : FVec Ideal S2x8192x1024 .f32) : FVec Ideal S16384x1024 .bf16 := truncf .bf16 (shapeCast _ h shapeCasts_S2x8192x1024_S16384x1024) bitsLt_bf16_f32
def qryR (u : FVec Ideal S2x8192x1024 .f32) (wq : FVec Ideal S1x1024x2048 .f32) : FVec Ideal S16384x2048 .f32 :=
  shapeCast _ (Host.dotGeneral dot_S2x8192x1024_S1024x2048_S2x8192x2048_2_0_01_1_n_n none u (shapeCast _ wq shapeCasts_S1x1024x2048_S1024x2048)) shapeCasts_S2x8192x2048_S16384x2048

theorem bat_eq (t : Fin 16384) : bat t.val = ⟨t.val / 8192, by omega⟩ := Fin.ext (Nat.mod_eq_of_lt (by omega))

theorem flatR_apply (h : FVec Ideal S2x8192x1024 .f32) (t : Fin 16384) (n : Fin 1024) : flatR h (ix2 t n) = h (ix3 (bat t.val) (plc t.val) n) := by
  rw [bat_eq]
  pointwise [flatR]

theorem narrowR_apply (h : FVec Ideal S2x8192x1024 .f32) (t : Fin 16384) (n : Fin 1024) : narrowR h (ix2 t n) = h (ix3 (bat t.val) (plc t.val) n) := by
  rw [bat_eq]
  pointwise [narrowR]

theorem qryR_apply (u : FVec Ideal S2x8192x1024 .f32) (wq : FVec Ideal S1x1024x2048 .f32) (t : Fin 16384) (n : Fin 2048) :
    qryR u wq (ix2 t n) = qry (fun k => u (ix3 (bat t.val) (plc t.val) k)) wq n := by
  unfold qry
  rw [bat_eq]
  pointwise [qryR]

section
variable (x : FVec Ideal S2x8192x1024 .f32) (a b : FVec Ideal S2x8x8192x64 .f32) (gt : FVec Ideal S2x8192x2048 .f32) (wa wb : FVec Ideal S1x512x1024 .f32)
  (wm : FVec Ideal S1x1024x1024 .f32) (g : FVec Ideal S1x1024 .f32) (wq : FVec Ideal S1x1024x2048 .f32)

theorem row_eq (t : Fin 16384) : (fun k => hR x a b gt wa wb wm (ix3 (bat t.val) (plc t.val) k)) = hid x a b gt wa wb wm t.val :=
  funext fun k => hR_apply x a b gt wa wb wm t k

theorem nrm_eq (t : Fin 16384) : (fun k => unitR (hR x a b gt wa wb wm) g (ix3 (bat t.val) (plc t.val) k)) = unit (hid x a b gt wa wb wm t.val) (wt g) := by
  funext k
  rw [unitR_apply, row_eq]

theorem hid_text : flatR (hR x a b gt wa wb wm) = hidA x a b gt wa wb wm := by
  funext j
  have ej : j = ix2 (j 0) (j 1) := by funext a; fin_cases a <;> rfl
  exact (congrArg (flatR (hR x a b gt wa wb wm)) ej).trans ((flatR_apply _ (j 0) (j 1)).trans (hR_apply x a b gt wa wb wm (j 0) (j 1)))

theorem nrm_text : narrowR (unitR (hR x a b gt wa wb wm) g) = nrmA x a b gt wa wb wm g := by
  funext j
  have ej : j = ix2 (j 0) (j 1) := by funext a; fin_cases a <;> rfl
  exact (congrArg (narrowR (unitR (hR x a b gt wa wb wm) g)) ej).trans ((narrowR_apply _ (j 0) (j 1)).trans (congrFun (nrm_eq x a b gt wa wb wm g (j 0)) (j 1)))

theorem qry_text : qryR (unitR (hR x a b gt wa wb wm) g) wq = qryA x a b gt wa wb wm g wq := by
  funext j
  have ej : j = ix2 (j 0) (j 1) := by funext a; fin_cases a <;> rfl
  exact (congrArg (qryR (unitR (hR x a b gt wa wb wm) g) wq) ej).trans ((qryR_apply _ wq (j 0) (j 1)).trans
    (congrArg (fun u => qry u wq (j 1)) (nrm_eq x a b gt wa wb wm g (j 0))))
end

variable (m : (ℓ : Loc nD τ sig) → Buf (Elt Ideal) ℓ)

/-- The arguments, typed. -/
abbrev x0 (c : Dev nD) : SX.Idx → EReal := m ((c.tc : Thread nD τ).loc main_arg0)
abbrev a0 (c : Dev nD) : SO.Idx → EReal := m ((c.tc : Thread nD τ).loc main_arg1)
abbrev b0 (c : Dev nD) : SO.Idx → EReal := m ((c.tc : Thread nD τ).loc main_arg2)
abbrev gt0 (c : Dev nD) : SGt.Idx → EReal := m ((c.tc : Thread nD τ).loc main_arg3)
abbrev wa0 (c : Dev nD) : SWo.Idx → EReal := m ((c.tc : Thread nD τ).loc main_arg4)
abbrev wb0 (c : Dev nD) : SWo.Idx → EReal := m ((c.tc : Thread nD τ).loc main_arg5)
abbrev wm0 (c : Dev nD) : SWm.Idx → EReal := m ((c.tc : Thread nD τ).loc main_arg6)
abbrev g0 (c : Dev nD) : SG.Idx → EReal := m ((c.tc : Thread nD τ).loc main_arg7)
abbrev wq0 (c : Dev nD) : SWq.Idx → EReal := m ((c.tc : Thread nD τ).loc main_arg8)

theorem res32_eq (c : Dev nD) : Cert.MixReferenceIdeal.Value.res_main_v32 m c
    = narrowR (unitR (hR (x0 m c) (a0 m c) (b0 m c) (gt0 m c) (wa0 m c) (wb0 m c) (wm0 m c)) (g0 m c)) := by
  unfold Cert.MixReferenceIdeal.Value.res_main_v32
  rfl

theorem res35_eq (c : Dev nD) : Cert.MixReferenceIdeal.Value.res_main_v35 m c
    = qryR (unitR (hR (x0 m c) (a0 m c) (b0 m c) (gt0 m c) (wa0 m c) (wb0 m c) (wm0 m c)) (g0 m c)) (wq0 m c) := by
  unfold Cert.MixReferenceIdeal.Value.res_main_v35
  rfl

end Cert.Proj.MixRef

namespace Cert.Proj

open Idealize.ShloMosaic Idealize.SL.Sem

theorem same_args {T : Type} (f : (SX.Idx → EReal) → (SO.Idx → EReal) → (SO.Idx → EReal) → (SGt.Idx → EReal) → (SWo.Idx → EReal) → (SWo.Idx → EReal) → (SWm.Idx → EReal) → (SG.Idx → EReal) → (SWq.Idx → EReal) → T)
    {x x' : SX.Idx → EReal} {a a' b b' : SO.Idx → EReal} {gt gt' : SGt.Idx → EReal} {wa wa' wb wb' : SWo.Idx → EReal} {wm wm' : SWm.Idx → EReal} {g g' : SG.Idx → EReal} {wq wq' : SWq.Idx → EReal}
    (h : x' = x ∧ a' = a ∧ b' = b ∧ gt' = gt ∧ wa' = wa ∧ wb' = wb ∧ wm' = wm ∧ g' = g ∧ wq' = wq) :
    f x' a' b' gt' wa' wb' wm' g' wq' = f x a b gt wa wb wm g wq := by
  obtain ⟨rfl, rfl, rfl, rfl, rfl, rfl, rfl, rfl, rfl⟩ := h
  rfl

/-- Over the extended reals, from the same inputs and weights, both programs end with the same three arrays. -/
theorem mix_agree : Cert.algebraic_MixIdeal_MixReferenceIdeal (hMixIdeal := Cert.MixIdeal.Gen.facts) (hMixReferenceIdeal := Cert.MixReferenceIdeal.Gen.facts) :=
  fun m g m' g' _ hargs => ⟨fun c => hidA (Mix.xA m c) (Mix.aA m c) (Mix.bA m c) (Mix.gtA m c) (Mix.waA m c) (Mix.wbA m c) (Mix.wmA m c), fun c => nrmA (Mix.xA m c) (Mix.aA m c) (Mix.bA m c) (Mix.gtA m c) (Mix.waA m c) (Mix.wbA m c) (Mix.wmA m c) (Mix.gA m c), fun c => qryA (Mix.xA m c) (Mix.aA m c) (Mix.bA m c) (Mix.gtA m c) (Mix.waA m c) (Mix.wbA m c) (Mix.wmA m c) (Mix.gA m c) (Mix.wqA m c),
    (θ_run Cert.MixIdeal.defs _ _).mono (fun _ h c => ⟨(h c).1.trans (Mix.out9A_eq m c), (h c).2.1.trans (Mix.out10A_eq m c), (h c).2.2.1.trans (Mix.out11A_eq m c), (h c).2.2.2⟩)
      (Cert.MixIdeal.Value.run_blocks m g),
    (θ_run Cert.MixReferenceIdeal.defs _ _).mono (fun _ h c => ⟨
        ((h c).1).trans ((MixRef.hid_text (MixRef.x0 m' c) (MixRef.a0 m' c) (MixRef.b0 m' c) (MixRef.gt0 m' c) (MixRef.wa0 m' c) (MixRef.wb0 m' c) (MixRef.wm0 m' c)).trans (same_args (fun x a b gt wa wb wm _ _ => hidA x a b gt wa wb wm) (hargs c))),
        ((h c).2.1).trans ((MixRef.res32_eq m' c).trans ((MixRef.nrm_text (MixRef.x0 m' c) (MixRef.a0 m' c) (MixRef.b0 m' c) (MixRef.gt0 m' c) (MixRef.wa0 m' c) (MixRef.wb0 m' c) (MixRef.wm0 m' c) (MixRef.g0 m' c)).trans (same_args (fun x a b gt wa wb wm g _ => nrmA x a b gt wa wb wm g) (hargs c)))),
        ((h c).2.2.1).trans ((MixRef.res35_eq m' c).trans ((MixRef.qry_text (MixRef.x0 m' c) (MixRef.a0 m' c) (MixRef.b0 m' c) (MixRef.gt0 m' c) (MixRef.wa0 m' c) (MixRef.wb0 m' c) (MixRef.wm0 m' c) (MixRef.g0 m' c) (MixRef.wq0 m' c)).trans (same_args (fun x a b gt wa wb wm g wq => qryA x a b gt wa wb wm g wq) (hargs c)))),
        (h c).2.2.2⟩) (Cert.MixReferenceIdeal.Value.run m' g')⟩

end Cert.Proj

end
-- ==== Proof.Proj.HeadsSpec.lean ====
/-
  The projections to queries, keys and values, in plain words, entry by entry.
-/
module

public import proofs.«01_k».proof.Proof.Proj.Spec

@[expose] public section

noncomputable section

namespace Cert.Proj

open Idealize.ShloMosaic
open scoped BigOperators

/-- The queries of both attentions are scaled by an eighth, the other parts by one. -/
def scale (j : Fin 6) : EReal := if j.val = 0 ∨ j.val = 3 then Ideal.ofBits .f32 0x3E000000#32 else 1

/-- Lane `d` of head `h` of part `j` at a token. -/
def head (x : SX.Idx → EReal) (g : SG.Idx → EReal) (w : SW.Idx → EReal) (j : Fin 6) (h : Fin 8) (t : ℕ) (d : Fin 64) : EReal :=
  proj x g w t ⟨512 * j.val + 64 * h.val + d.val, by omega⟩ * scale j

/-- The shape of the six parts. -/
abbrev SH : Shape := ⟨5, ![6, 2, 8, 8192, 64]⟩

/-- The six parts, as an array. -/
def headA (x : SX.Idx → EReal) (g : SG.Idx → EReal) (w : SW.Idx → EReal) : SH.Idx → EReal :=
  fun i => head x g w (i 0) (i 2) ((i 1).val * 8192 + (i 3).val) (i 4)

end Cert.Proj

end
-- ==== Proof.Proj.Heads.lean ====
/-
  The call that projects to queries, keys and values: what its body leaves, over the extended reals.
-/
module

public import proofs.«01_k».proof.Proof.Proj.HeadsSpec
public import proofs.«01_k».proof.Proof.Gen.HeadsIdeal.Frame
public import Idealize.ShloMosaic.Lib.StableHlo.ReadAt
public import Idealize.ShloMosaic.Lib.Tactic.WordOmega
public import Idealize.ShloMosaic.Lib.Pipeline.ValueKit
public import Idealize.ShloMosaic.Lib.Pipeline.ReadBack

@[expose] public section

set_option maxRecDepth 16384

noncomputable section

namespace Cert.Proj.Heads

open Cert.HeadsIdeal Cert.HeadsIdeal.Gen
open Idealize.ShloMosaic Idealize.ShloMosaic.TcCoe Idealize.ShloMosaic.Pipeline Idealize.ShloMosaic.Pointwise
open Idealize.SL Idealize.SL.Sem
open scoped BigOperators

theorem pay6_apply (x : Vec Ideal S1024x1024 .f32) (g : Vec Ideal S1x1024 .f32) (r k : Fin 1024) :
    k0_pay6 x g (ix2 r k) = unit (fun k => x (ix2 r k)) (wt g) k := by
  pointwise [k0_pay6]
  rfl

/-- The factor of a block of columns, as the body selects it. -/
def scaleB (j : ℕ) : EReal :=
  Scalar.select (Scalar.ori (Scalar.cmpi .eq (BitVec.ofNat 32 j) 0#32) (Scalar.cmpi .eq (BitVec.ofNat 32 j) 3#32))
    (Ideal.ofBits .f32 0x3E000000#32) 1

theorem scaleB_eq (j : Fin 6) : scaleB j.val = scale j := by
  unfold scaleB scale
  fin_cases j <;> rfl

theorem pay7_apply (i : grid0.Coords) (u w : Vec Ideal S1024x1024 .bf16) (r n : Fin 1024) :
    k0_pay7 i u w (ix2 r n) = (∑ k : Fin 1024, u (ix2 r k) * w (ix2 k n)) * scaleB (i 1).val := by
  pointwise [k0_pay7]
  rfl

/-- Head `h`'s 128 columns of a block. -/
def plane (A : FVec Ideal S1024x1024 .f32) (h : Fin 8) : FVec Ideal S1x1024x128 .bf16 :=
  fun x => A (ix2 (x 1) ⟨h.val * 128 + (x 2).val, by have : (x 2).val < 128 := (x 2).isLt; omega⟩)

theorem eta3 (x : S1x1024x128.Idx) : x = ix3 0 (x 1) (x 2) := by
  funext a
  have h1 : (x 0).val < 1 := (x 0).isLt
  fin_cases a
  · exact Fin.ext (by show (x 0).val = 0; omega)
  · rfl
  · rfl

theorem plane_ext (A : FVec Ideal S1024x1024 .f32) (h : Fin 8) (P : FVec Ideal S1x1024x128 .bf16)
    (hP : ∀ (r : Fin 1024) (l : Fin 128), P (ix3 0 r l) = A (ix2 r ⟨h.val * 128 + l.val, by omega⟩)) : P = plane A h :=
  funext fun x => (congrArg P (eta3 x)).trans (hP (x 1) (x 2))

theorem pay8_eq (i : grid0.Coords) (u w : Vec Ideal S1024x1024 .bf16) : k0_pay8 i u w = plane (k0_pay7 i u w) 0 :=
  plane_ext _ _ _ fun r l => by
    generalize hR : k0_pay7 i u w = A
    pointwise [k0_pay8, hR]
theorem pay9_eq (i : grid0.Coords) (u w : Vec Ideal S1024x1024 .bf16) : k0_pay9 i u w = plane (k0_pay7 i u w) 1 :=
  plane_ext _ _ _ fun r l => by
    generalize hR : k0_pay7 i u w = A
    pointwise [k0_pay9, hR]
theorem pay10_eq (i : grid0.Coords) (u w : Vec Ideal S1024x1024 .bf16) : k0_pay10 i u w = plane (k0_pay7 i u w) 2 :=
  plane_ext _ _ _ fun r l => by
    generalize hR : k0_pay7 i u w = A
    pointwise [k0_pay10, hR]
theorem pay11_eq (i : grid0.Coords) (u w : Vec Ideal S1024x1024 .bf16) : k0_pay1 (k0_pay11 i u w) = plane (k0_pay7 i u w) 3 :=
  plane_ext _ _ _ fun r l => by
    generalize hR : k0_pay7 i u w = A
    pointwise [k0_pay1, k0_pay11, hR]
theorem pay2_eq (A : FVec Ideal S1024x1024 .f32) : k0_pay2 A = plane A 4 := plane_ext _ _ _ fun r l => by pointwise [k0_pay2]
theorem pay3_eq (A : FVec Ideal S1024x1024 .f32) : k0_pay3 A = plane A 5 := plane_ext _ _ _ fun r l => by pointwise [k0_pay3]
theorem pay4_eq (A : FVec Ideal S1024x1024 .f32) : k0_pay4 A = plane A 6 := plane_ext _ _ _ fun r l => by pointwise [k0_pay4]
theorem pay5_eq (A : FVec Ideal S1024x1024 .f32) : k0_pay5 A = plane A 7 := plane_ext _ _ _ fun r l => by pointwise [k0_pay5]

theorem hz : (![0, 0] : Fin 2 → Nat) = fun _ => 0 := funext fun a => by fin_cases a <;> rfl

/-- The eight heads' planes, one over another. -/
def planes (A : FVec Ideal S1024x1024 .f32) : FVec Ideal S8x1024x128 .bf16 := fun y => plane A (y 0) (ix3 0 (y 1) (y 2))

/-- One head's store is its plane of the block. -/
theorem piece (A : FVec Ideal S1024x1024 .f32) (h : Fin 8) (off : Fin 3 → Nat) (ho : off = ![h.val, 0, 0])
    (inb : ∀ a, off a + S1x1024x128.size a ≤ S8x1024x128.size a) (x : S1x1024x128.Idx) :
    plane A h x = planes A ((Rect.unit (s := S8x1024x128) off S1x1024x128.size inb).emb x) := by
  subst ho
  have h1 : (x 0).val < 1 := (x 0).isLt
  have e0 : (Rect.unit (s := S8x1024x128) ![h.val, 0, 0] S1x1024x128.size inb).emb x 0 = h :=
    Fin.ext (by show h.val + 1 * (x 0).val = h.val; omega)
  show plane A h x = plane A ((Rect.unit (s := S8x1024x128) ![h.val, 0, 0] S1x1024x128.size inb).emb x 0) _
  rw [e0]
  refine congrArg (plane A h) (funext fun a => ?_)
  fin_cases a
  · exact Fin.ext (by show (x 0).val = 0; omega)
  · exact Fin.ext (by show (x 1).val = 0 + 1 * (x 1).val; omega)
  · exact Fin.ext (by show (x 2).val = 0 + 1 * (x 2).val; omega)

/-- The body's eight stores, last first. -/
def stores (A : FVec Ideal S1024x1024 .f32) : List (View.Piece (Elt Ideal) S8x1024x128 .bf16) :=
  [⟨Rect.unit ![7, 0, 0] ![1, 1024, 128] inb_S8x1024x128_S1x1024x128_7_0_0, plane A 7⟩, ⟨Rect.unit ![6, 0, 0] ![1, 1024, 128] inb_S8x1024x128_S1x1024x128_6_0_0, plane A 6⟩, ⟨Rect.unit ![5, 0, 0] ![1, 1024, 128] inb_S8x1024x128_S1x1024x128_5_0_0, plane A 5⟩, ⟨Rect.unit ![4, 0, 0] ![1, 1024, 128] inb_S8x1024x128_S1x1024x128_4_0_0, plane A 4⟩, ⟨Rect.unit ![3, 0, 0] ![1, 1024, 128] inb_S8x1024x128_S1x1024x128_3_0_0, plane A 3⟩, ⟨Rect.unit ![2, 0, 0] ![1, 1024, 128] inb_S8x1024x128_S1x1024x128_2_0_0, plane A 2⟩, ⟨Rect.unit ![1, 0, 0] ![1, 1024, 128] inb_S8x1024x128_S1x1024x128_1_0_0, plane A 1⟩, ⟨Rect.unit ![0, 0, 0] ![1, 1024, 128] inb_S8x1024x128_S1x1024x128_0_0_0, plane A 0⟩]

theorem canon_stores (A : FVec Ideal S1024x1024 .f32) (y : S8x1024x128.Idx) (hy : ∃ pc ∈ stores A, y ∈ pc.1.set) :
    View.canon (stores A) y = planes A y := by
  have := View.canon_append_of_piecesOf (Val := Elt Ideal) (s := S8x1024x128) (e := .bf16) (planes A) [] (stores A)
    ⟨piece A 7 _ rfl inb_S8x1024x128_S1x1024x128_7_0_0, piece A 6 _ rfl inb_S8x1024x128_S1x1024x128_6_0_0, piece A 5 _ rfl inb_S8x1024x128_S1x1024x128_5_0_0, piece A 4 _ rfl inb_S8x1024x128_S1x1024x128_4_0_0, piece A 3 _ rfl inb_S8x1024x128_S1x1024x128_3_0_0, piece A 2 _ rfl inb_S8x1024x128_S1x1024x128_2_0_0, piece A 1 _ rfl inb_S8x1024x128_S1x1024x128_1_0_0, piece A 0 _ rfl inb_S8x1024x128_S1x1024x128_0_0_0, trivial⟩
    y hy
  rwa [List.append_nil] at this

theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S8x1024x128 .bf16) (h5 : a5.IsWhole)
    (a6 : Memref sig .tc .vmem S1024x1024 .bf16) (h6 : a6.IsWhole) (hc : ¬cond0_0 i)
    (x0 : Vec Ideal S1024x1024 .f32) (x1 : Vec Ideal S1x1024 .f32) (x2 xs : Vec Ideal S1024x1024 .bf16) :
    out0_B_3 c i a2 h2 a3 h3 a4 h4 a5 h5 a6 h6 hc x0 x1 x2 xs = planes (k0_pay7 i xs x2) := by
  unfold out0_B_3
  rw [View.read_writes_eq_canon _ _ _ (cover0_B_3 c i a2 h2 a3 h3 a4 h4 a5 h5 a6 h6 hc x0 x1 x2 xs)]
  funext y
  have hcov := cover0_B_3 c i a2 h2 a3 h3 a4 h4 a5 h5 a6 h6 hc x0 x1 x2 xs y
  have hL : (kernelRun0_B c i a2 h2 a3 h3 a4 h4 a5 h5 a6 h6 hc x0 x1 x2 xs).1 = stores (k0_pay7 i xs x2) := by
    unfold kernelRun0_B
    dsimp only
    sl_unfold_words
    simp only [View.readAt_eq_ld, h4.read_unread, h6.read_unread, View.ld_unit_zero (S := S1024x1024) hz, pay8_eq, pay9_eq, pay10_eq, pay11_eq, pay2_eq, pay3_eq, pay4_eq, pay5_eq]
    rfl
  rw [hL] at hcov ⊢
  exact canon_stores _ y hcov

theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S8x1024x128 .bf16) (h5 : a5.IsWhole)
    (a6 : Memref sig .tc .vmem S1024x1024 .bf16) (h6 : a6.IsWhole) (hc : cond0_0 i)
    (x0 : Vec Ideal S1024x1024 .f32) (x1 : Vec Ideal S1x1024 .f32) (x2 : Vec Ideal S1024x1024 .bf16) :
    out0_A_3 c i a2 h2 a3 h3 a4 h4 a5 h5 a6 h6 hc x0 x1 x2 = planes (k0_pay7 i (k0_pay6 x0 x1) x2) := by
  unfold out0_A_3
  rw [View.read_writes_eq_canon _ _ _ (cover0_A_3 c i a2 h2 a3 h3 a4 h4 a5 h5 a6 h6 hc x0 x1 x2)]
  funext y
  have hcov := cover0_A_3 c i a2 h2 a3 h3 a4 h4 a5 h5 a6 h6 hc x0 x1 x2 y
  have hL : (kernelRun0_A c i a2 h2 a3 h3 a4 h4 a5 h5 a6 h6 hc x0 x1 x2).1 = stores (k0_pay7 i (k0_pay6 x0 x1) x2) := by
    unfold kernelRun0_A
    dsimp only
    sl_unfold_words
    simp only [View.readCov_unit_zero (S := S1024x1024) _ hz, View.readAt_eq_ld, h2.read_unread, h3.read_unread, h4.read_unread, View.ld_unit_zero (S := S1024x1024) hz, View.ld_unit_zero (S := S1x1024) hz, pay8_eq, pay9_eq, pay10_eq, pay11_eq, pay2_eq, pay3_eq, pay4_eq, pay5_eq]
    rfl
  rw [hL] at hcov ⊢
  exact canon_stores _ y hcov

theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x1024 .bf16) (h4 : a4.IsWhole) (a5 : Memref sig .tc .vmem S8x1024x128 .bf16) (h5 : a5.IsWhole)
    (a6 : Memref sig .tc .vmem S1024x1024 .bf16) (h6 : a6.IsWhole) (hc : cond0_0 i)
    (x0 : Vec Ideal S1024x1024 .f32) (x1 : Vec Ideal S1x1024 .f32) (x2 : Vec Ideal S1024x1024 .bf16) :
    sout0_A_0 c i a2 h2 a3 h3 a4 h4 a5 h5 a6 h6 hc x0 x1 x2 = k0_pay6 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

end Cert.Proj.Heads

end
-- ==== Proof.Proj.HeadsArr.lean ====
/-
  The array that the call of the projections makes, and what the program returns of it.
-/
module

public import proofs.«01_k».proof.Proof.Proj.Heads

@[expose] public section

set_option maxRecDepth 16384

noncomputable section

namespace Cert.Proj.Heads

open Cert.HeadsIdeal Cert.HeadsIdeal.Gen
open Idealize.ShloMosaic Idealize.ShloMosaic.TcCoe Idealize.ShloMosaic.Pipeline Idealize.ShloMosaic.Pointwise
open Idealize.SL Idealize.SL.Sem
open scoped BigOperators

variable (m : (ℓ : Loc nD τ sig) → Buf (Elt Ideal) ℓ) (ρ : Dev nD → PrngReg)

/-- The input, the weights and the matrix. -/
abbrev xA (c : Dev nD) : SX.Idx → EReal := m (c, Proc.tc.devRef main_arg0)
abbrev gA (c : Dev nD) : SG.Idx → EReal := m (c, Proc.tc.devRef main_arg1)
abbrev wA (c : Dev nD) : SW.Idx → EReal := m (c, Proc.tc.devRef main_arg2)

theorem sitofp_zero : FloatOps.sitofp (F := Ideal) FTy.f32 (0#32) = (0 : EReal) := by
  show (((0#32).toInt : ℝ) : EReal) = 0
  simp

theorem x_at (c : Dev nD) (n : Fin 16384) (k : Fin 1024) : V m c main_v6 (ix2 n k) = row (xA m c) n.val k := by
  have e : n.val / 8192 % 2 = n.val / 8192 := Nat.mod_eq_of_lt (by omega)
  unfold row
  simp only [e]
  unfold V V0
  after_reads_at

theorem g_at (c : Dev nD) (k : Fin 1024) : V m c main_v8 (ix2 0 k) = wt (gA m c) k := by
  unfold V V0 wt
  after_reads_at

theorem w_at (c : Dev nD) (k : Fin 1024) (n : Fin 6144) : V m c main_v5 (ix2 k n)
    = if hl : n.val % 128 < 64 then wA m c (ix3 0 k ⟨n.val / 128 * 64 + n.val % 128, by omega⟩) else (0 : EReal) := by
  have e : n.val / 128 < 48 := by omega
  generalize hR : (if hl : n.val % 128 < 64 then _ else (0 : EReal)) = R
  unfold V V0
  after_reads_at
  simp only [k.isLt, e, true_and, sitofp_zero]
  exact hR

theorem idx0 : ∀ t : Fin grid0.N, win0_0.index t = ![t.val / 6, 0] := by decide +kernel
theorem idx1 : ∀ t : Fin grid0.N, win0_1.index t = ![0, 0] := by decide +kernel
theorem idx2 : ∀ t : Fin grid0.N, win0_2.index t = ![0, t.val % 6] := by decide +kernel
theorem idx3 : ∀ t : Fin grid0.N, win0_3.index t = ![t.val % 6, t.val / 6, 0] := by decide +kernel
theorem col : ∀ t : Fin grid0.N, (grid0.coords t 1).val = t.val % 6 := by decide +kernel

theorem lt96 (t : Fin grid0.N) : t.val < 96 := lt_of_lt_of_eq t.isLt N_0

theorem blk0 (c : Dev nD) (t : Fin grid0.N) (r k : Fin 1024) :
    iblk m c 0 t (ix2 r k) = V m c main_v6 (ix2 ⟨t.val / 6 * 1024 + r.val, by have := lt96 t; omega⟩ k) := by
  blk_ext [iblk, idx0 t]

theorem blk1 (c : Dev nD) (t : Fin grid0.N) (k : Fin 1024) : iblk m c 1 t (ix2 0 k) = V m c main_v8 (ix2 0 k) := by
  blk_ext [iblk, idx1 t]

theorem blk2 (c : Dev nD) (t : Fin grid0.N) (k n : Fin 1024) :
    iblk m c 2 t (ix2 k n) = V m c main_v5 (ix2 k ⟨t.val % 6 * 1024 + n.val, by omega⟩) := by
  blk_ext [iblk, idx2 t]

theorem blk0_row (c : Dev nD) (t : Fin grid0.N) (r : Fin 1024) :
    (fun k => iblk m c 0 t (ix2 r k)) = row (xA m c) (t.val / 6 * 1024 + r.val) :=
  funext fun k => (blk0 m c t r k).trans (x_at m c _ k)

theorem blk1_row (c : Dev nD) (t : Fin grid0.N) : wt (iblk m c 1 t) = wt (gA m c) :=
  funext fun k => (blk1 m c t k).trans (g_at m c k)

/-- The columns of head `h` in a block of the padded matrix, in the lanes that are kept. -/
theorem blk2_col (c : Dev nD) (t : Fin grid0.N) (k : Fin 1024) (h : Fin 8) (d : Fin 64) :
    iblk m c 2 t (ix2 k ⟨h.val * 128 + d.val, by omega⟩) = wA m c (ix3 0 k ⟨512 * (t.val % 6) + 64 * h.val + d.val, by omega⟩) := by
  have e1 : (t.val % 6 * 1024 + (h.val * 128 + d.val)) % 128 < 64 := by omega
  have e2 : (⟨(t.val % 6 * 1024 + (h.val * 128 + d.val)) / 128 * 64 + (t.val % 6 * 1024 + (h.val * 128 + d.val)) % 128, by omega⟩ : Fin 5120)
      = ⟨512 * (t.val % 6) + 64 * h.val + d.val, by omega⟩ := Fin.ext (by
    show (t.val % 6 * 1024 + (h.val * 128 + d.val)) / 128 * 64 + (t.val % 6 * 1024 + (h.val * 128 + d.val)) % 128 = 512 * (t.val % 6) + 64 * h.val + d.val
    omega)
  exact (blk2 m c t k _).trans ((w_at m c k _).trans ((dif_pos e1).trans (congrArg (fun n => wA m c (ix3 0 k n)) e2)))

/-- What the body keeps between points: the rows of its block of tokens, normalized. -/
theorem kept_rows (c : Dev nD) : ∀ (n : ℕ) (hn : n < cfg0.N) (r k : Fin 1024),
    (outsAt0 m c n hn).2 (ix2 r k) = unit (row (xA m c) (n / 6 * 1024 + r.val)) (wt (gA m c)) k := by
  have hA : ∀ (t : Fin cfg0.N) (h0 : t.val % 6 = 0) (r k : Fin 1024),
      (outsAt0 m c t.val t.isLt).2 (ix2 r k) = unit (row (xA m c) (t.val / 6 * 1024 + r.val)) (wt (gA m c)) k := by
    intro t h0 r k
    rw [outsAt0_A m c t h0]
    dsimp only
    rw [sout_A, pay6_apply, blk0_row m c t r, blk1_row m c t]
  intro n
  induction n with
  | zero => exact fun hn r k => hA ⟨0, hn⟩ rfl r k
  | succ n ih =>
    intro hn r k
    by_cases h0 : (n + 1) % 6 = 0
    · exact hA ⟨n + 1, hn⟩ h0 r k
    · have e : (n + 1) / 6 = n / 6 := by omega
      have hB := outsAt0_B m c ⟨n + 1, hn⟩ h0
      dsimp only at hB
      rw [hB, e]
      dsimp only
      unfold sout0_B_0
      exact ih _ r k

/-- What the body leaves at a point, in the lanes that are kept. -/
theorem after_apply (c : Dev nD) (t : Fin cfg0.N) (h : Fin 8) (r : Fin 1024) (d : Fin 64) :
    (dats m 0 c).after 3 t (ix3 h r ⟨d.val, by omega⟩)
      = head (xA m c) (gA m c) (wA m c) ⟨t.val % 6, Nat.mod_lt _ (by decide)⟩ h (t.val / 6 * 1024 + r.val) d := by
  have hw : ∀ u : Vec Ideal S1024x1024 .bf16, (∀ k, u (ix2 r k) = unit (row (xA m c) (t.val / 6 * 1024 + r.val)) (wt (gA m c)) k) →
      planes (k0_pay7 (grid0.coords t) u (iblk m c 2 t)) (ix3 h r ⟨d.val, by omega⟩)
        = head (xA m c) (gA m c) (wA m c) ⟨t.val % 6, Nat.mod_lt _ (by decide)⟩ h (t.val / 6 * 1024 + r.val) d := by
    intro u hu
    refine (pay7_apply (grid0.coords t) u (iblk m c 2 t) r ⟨h.val * 128 + d.val, by omega⟩).trans ?_
    unfold head proj
    refine congrArg₂ (· * ·) (Finset.sum_congr rfl fun k _ => ?_) ?_
    · rw [hu k]
      exact congrArg (_ * ·) (blk2_col m c t k h d)
    · rw [col t]
      exact scaleB_eq ⟨t.val % 6, Nat.mod_lt _ (by decide)⟩
  rw [after0_3]
  have hk := kept_rows m c t.val t.isLt r
  by_cases h0 : t.val % 6 = 0
  · rw [outsAt0_A m c t h0] at hk ⊢
    dsimp only at hk ⊢
    rw [out_A]
    refine hw _ fun k => ?_
    have := hk k
    rw [sout_A] at this
    exact this
  · rw [outsAt0_B m c t h0] at hk ⊢
    dsimp only at hk ⊢
    unfold sout0_B_0 at hk
    rw [out_B]
    exact hw _ hk

/-- The array after the run. -/
abbrev outA (c : Dev nD) : S48x16384x128.Idx → EReal := (dats m 0 c).arrAt 3 cfg0.N

/-- An entry of it, in the lanes that are kept. -/
def Kept (c : Dev nD) (i : S48x16384x128.Idx) (v : EReal) : Prop :=
  ∀ hl : (i 2).val < 64, v = head (xA m c) (gA m c) (wA m c) ⟨(i 0).val / 8, by have : (i 0).val < 48 := (i 0).isLt; omega⟩
    ⟨(i 0).val % 8, Nat.mod_lt _ (by decide)⟩ (i 1).val ⟨(i 2).val, hl⟩

theorem after_kept (c : Dev nD) (t : Fin grid0.N) (y : S8x1024x128.Idx) (i : S48x16384x128.Idx)
    (h0 : (i 0).val = t.val % 6 * 8 + (y 0).val) (h1 : (i 1).val = t.val / 6 * 1024 + (y 1).val)
    (h2 : (i 2).val = (y 2).val) : Kept m c i ((dats m 0 c).after 3 t y) := by
  intro hl
  have hy0 : (y 0).val < 8 := (y 0).isLt
  have := after_apply m c t (y 0) (y 1) ⟨(y 2).val, by omega⟩
  have ey : y = ix3 (y 0) (y 1) ⟨(y 2).val, (y 2).isLt⟩ := by
    funext a; fin_cases a <;> rfl
  refine ((congrArg ((dats m 0 c).after 3 t) ey).trans this).trans ?_
  have a0 : (⟨t.val % 6, Nat.mod_lt _ (by decide)⟩ : Fin 6) = ⟨(i 0).val / 8, by have : (i 0).val < 48 := (i 0).isLt; omega⟩ :=
    Fin.ext (by show t.val % 6 = (i 0).val / 8; omega)
  have a1 : y 0 = (⟨(i 0).val % 8, Nat.mod_lt _ (by decide)⟩ : Fin 8) := Fin.ext (by show (y 0).val = (i 0).val % 8; omega)
  have a3 : (⟨(y 2).val, by omega⟩ : Fin 64) = ⟨(i 2).val, hl⟩ := Fin.ext h2.symm
  rw [a0, a1, a3, h1]

theorem arr_kept (c : Dev nD) (i : S48x16384x128.Idx) : Kept m c i (outA m c i) := by
  refine (dats m 0 c).arrAt_forall_of_covers 3 (fun i v => Kept m c i v) (by decide +kernel) (fun t hf y => ?_) i
  refine after_kept m c t y _ ?_ ?_ ?_
  all_goals blk_simp [idx3 t]

theorem tail_apply (c : Dev nD) (j : Fin 6) (B : Fin 2) (h : Fin 8) (s : Fin 8192) (d : Fin 64) :
    Pipeline.afterTail₀ cfgs (dats m) 0 (V0 m) [hostOps1] c main_v13 (ix5 j B h s d)
      = head (xA m c) (gA m c) (wA m c) j h (B.val * 8192 + s.val) d := by
  unfold Pipeline.afterTail₀
  after_reads_at
  rw [show withArrays (cfgs 0).spec c (V0 m c) (fun w => (dats m 0 c).arrAt w (cfgs 0).N) (Proc.tc.devRef main_v9) = outA m c from
    withArrays_arr spec0 (by decide) c (V0 m c) _ 3]
  have hs := s.isLt
  refine (arr_kept m c (ix3 ⟨j.val * 8 + h.val, by omega⟩ ⟨B.val * 8192 + s.val, by omega⟩ ⟨d.val, by omega⟩) d.isLt).trans ?_
  have a0 : (⟨(j.val * 8 + h.val) / 8, by omega⟩ : Fin 6) = j := Fin.ext (by show (j.val * 8 + h.val) / 8 = j.val; omega)
  have a1 : (⟨(j.val * 8 + h.val) % 8, Nat.mod_lt _ (by decide)⟩ : Fin 8) = h := Fin.ext (by show (j.val * 8 + h.val) % 8 = h.val; omega)
  show head _ _ _ ⟨(j.val * 8 + h.val) / 8, _⟩ ⟨(j.val * 8 + h.val) % 8, _⟩ (B.val * 8192 + s.val) d = _
  rw [a0, a1]

/-- The program runs to the six parts, and its arguments are as they were. -/
theorem run_heads : θ_run defs (onTc (τ := τ) (main (F := Ideal))) ⟨m, fun _ => 0, ρ⟩ (fun r => ∀ c : Dev nD,
      r.2.mem ((c.tc : Thread nD τ).loc main_v13) = headA (xA m c) (gA m c) (wA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v13 (Pipeline.mem_restRefs_of main_v13 (by decide) (by exact (by decide : ∀ w, Pipeline.arrRef spec0 w ≠ main_v13)))).trans
        (funext fun j => (congrArg (Pipeline.afterTail₀ cfgs (dats m) 0 (V0 m) [hostOps1] c main_v13) (ix5_eta j).symm).trans (tail_apply m c (j 0) (j 1) (j 2) (j 3) (j 4))),
      (((h c).2 main_arg0 (Pipeline.mem_restRefs_of main_arg0 (by decide) (by exact (by decide : ∀ w, Pipeline.arrRef spec0 w ≠ main_arg0)))).trans (W_main_arg0 m _ c)),
      (((h c).2 main_arg1 (Pipeline.mem_restRefs_of main_arg1 (by decide) (by exact (by decide : ∀ w, Pipeline.arrRef spec0 w ≠ main_arg1)))).trans (W_main_arg1 m _ c)),
      (((h c).2 main_arg2 (Pipeline.mem_restRefs_of main_arg2 (by decide) (by exact (by decide : ∀ w, Pipeline.arrRef spec0 w ≠ main_arg2)))).trans (W_main_arg2 m _ c))⟩) (run_main m ρ)

end Cert.Proj.Heads

end
-- ==== Proof.Proj.HeadsRef.lean ====
/-
  The plain text of the six parts, read at an entry; it and the call of the projections make the same array.
-/
module

public import proofs.«01_k».proof.Defs
public import proofs.«01_k».proof.Proof.Proj.HeadsArr
public import proofs.«01_k».proof.Proof.Gen.HeadsReferenceIdeal.Run

@[expose] public section

set_option maxRecDepth 16384

noncomputable section

namespace Cert.Proj.HeadsRef

open Cert.HeadsReferenceIdeal Cert.HeadsReferenceIdeal.Gen
open Idealize.ShloMosaic Idealize.ShloMosaic.Pointwise
open scoped BigOperators

/-- The rows, normalized, as the text prints them. -/
def unitR (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))

theorem unitR_apply (x : FVec Ideal S2x8192x1024 .f32) (g : FVec Ideal S1x1024 .f32) (B : Fin 2) (s : Fin 8192) (k : Fin 1024) :
    unitR x g (ix3 B s k) = unit (fun k => x (ix3 B s k)) (wt g) k := by
  pointwise [unitR]
  rfl

/-- All the columns of the product, as the text prints them. -/
def prodR (x : FVec Ideal S2x8192x1024 .f32) (g : FVec Ideal S1x1024 .f32) (w : FVec Ideal S1x1024x5120 .f32) : FVec Ideal S2x8192x5120 .f32 :=
  Host.dotGeneral dot_S2x8192x1024_S1024x5120_S2x8192x5120_2_0_01_1_n_n none (unitR x g) (shapeCast _ w shapeCasts_S1x1024x5120_S1024x5120)

theorem prodR_apply (x : FVec Ideal S2x8192x1024 .f32) (g : FVec Ideal S1x1024 .f32) (w : FVec Ideal S1x1024x5120 .f32)
    (B : Fin 2) (s : Fin 8192) (n : Fin 5120) : prodR x g w (ix3 B s n) = proj x g w (B.val * 8192 + s.val) n := by
  have e1 : (⟨(B.val * 8192 + s.val) / 8192 % 2, Nat.mod_lt _ (by decide)⟩ : Fin 2) = B := Fin.ext (by
    show (B.val * 8192 + s.val) / 8192 % 2 = B.val
    omega)
  have e2 : (⟨(B.val * 8192 + s.val) % 8192, Nat.mod_lt _ (by decide)⟩ : Fin 8192) = s := Fin.ext (by
    show (B.val * 8192 + s.val) % 8192 = s.val
    omega)
  unfold proj row
  rw [e1, e2]
  pointwise [prodR]
  simp only [unitR_apply]

/-- A part's 512 columns, by heads, as the text prints them. -/
def partR (o : ℕ) (ho : S2x8192x5120.Slices ![0, 0, o] S2x8192x512) (a : FVec Ideal S2x8192x5120 .f32) : FVec Ideal S2x8x8192x64 .f32 :=
  transpose S2x8x8192x64 [0, 2, 1, 3] (shapeCast _ (extractStridedSlice S2x8192x512 ![0, 0, o] a ho) shapeCasts_S2x8192x512_S2x8192x8x64) transposes_S2x8192x8x64_S2x8x8192x64_0_2_1_3

/-- The scale of the queries, at every entry. -/
def eighthR : FVec Ideal S2x8x8192x64 .f32 := broadcastInDim S2x8x8192x64 ![] bcast_S_S2x8x8192x64 (constant S_ .f32 0x3E000000#32)

/-- One part as a layer of the result. -/
def layerR (a : FVec Ideal S2x8x8192x64 .f32) : FVec Ideal S1x2x8x8192x64 .f32 :=
  broadcastInDim S1x2x8x8192x64 ![1, 2, 3, 4] bcast_S2x8x8192x64_S1x2x8x8192x64_1_2_3_4 a

theorem layerR_apply (a : FVec Ideal S2x8x8192x64 .f32) (B : Fin 2) (h : Fin 8) (s : Fin 8192) (d : Fin 64) :
    layerR a (ix5 0 B h s d) = a (ix4 B h s d) := by
  pointwise [layerR]

theorem partR_apply (o : ℕ) (ho : S2x8192x5120.Slices ![0, 0, o] S2x8192x512) (a : FVec Ideal S2x8192x5120 .f32)
    (h' : o + 512 ≤ 5120) (B : Fin 2) (h : Fin 8) (s : Fin 8192) (d : Fin 64) :
    partR o ho a (ix4 B h s d) = a (ix3 B s ⟨o + 64 * h.val + d.val, by omega⟩) := by
  have e : (⟨o + 64 * h.val + d.val, by omega⟩ : Fin 5120) = ⟨o + (h.val * 64 + d.val), by omega⟩ := Fin.ext (by
    show o + 64 * h.val + d.val = o + (h.val * 64 + d.val)
    omega)
  rw [e]
  pointwise [partR]

theorem eighthR_apply (B : Fin 2) (h : Fin 8) (s : Fin 8192) (d : Fin 64) : eighthR (ix4 B h s d) = Ideal.ofBits .f32 0x3E000000#32 := by
  pointwise [eighthR]

/-- The six parts, one layer each, as the text prints them. -/
def headsR (x : FVec Ideal S2x8192x1024 .f32) (g : FVec Ideal S1x1024 .f32) (w : FVec Ideal S1x1024x5120 .f32) : FVec Ideal S6x2x8x8192x64 .f32 :=
  concatenate S6x2x8x8192x64 0 [⟨S1x2x8x8192x64, layerR (mulf (partR 0 slices_S2x8192x5120_S2x8192x512_0_0_0 (prodR x g w)) eighthR)⟩, ⟨S1x2x8x8192x64, layerR (partR 512 slices_S2x8192x5120_S2x8192x512_0_0_512 (prodR x g w))⟩, ⟨S1x2x8x8192x64, layerR (partR 1024 slices_S2x8192x5120_S2x8192x512_0_0_1024 (prodR x g w))⟩, ⟨S1x2x8x8192x64, layerR (mulf (partR 1536 slices_S2x8192x5120_S2x8192x512_0_0_1536 (prodR x g w)) eighthR)⟩, ⟨S1x2x8x8192x64, layerR (partR 2048 slices_S2x8192x5120_S2x8192x512_0_0_2048 (prodR x g w))⟩, ⟨S1x2x8x8192x64, layerR (partR 2560 slices_S2x8192x5120_S2x8192x512_0_0_2560 (prodR x g w))⟩] concatenates_S1x2x8x8192x64_S1x2x8x8192x64_S1x2x8x8192x64_S1x2x8x8192x64_S1x2x8x8192x64_S1x2x8x8192x64_S6x2x8x8192x64_d0

theorem plain_head (x : FVec Ideal S2x8192x1024 .f32) (g : FVec Ideal S1x1024 .f32) (w : FVec Ideal S1x1024x5120 .f32) (j : Fin 6)
    (hj : ¬(j.val = 0 ∨ j.val = 3)) (ho : S2x8192x5120.Slices ![0, 0, 512 * j.val] S2x8192x512) (B : Fin 2) (h : Fin 8) (s : Fin 8192) (d : Fin 64) :
    layerR (partR (512 * j.val) ho (prodR x g w)) (ix5 0 B h s d) = head x g w j h (B.val * 8192 + s.val) d := by
  rw [layerR_apply, partR_apply _ _ _ (by omega), prodR_apply]
  unfold head scale
  rw [if_neg hj, mul_one]

theorem scaled_head (x : FVec Ideal S2x8192x1024 .f32) (g : FVec Ideal S1x1024 .f32) (w : FVec Ideal S1x1024x5120 .f32) (j : Fin 6)
    (hj : j.val = 0 ∨ j.val = 3) (ho : S2x8192x5120.Slices ![0, 0, 512 * j.val] S2x8192x512) (B : Fin 2) (h : Fin 8) (s : Fin 8192) (d : Fin 64) :
    layerR (mulf (partR (512 * j.val) ho (prodR x g w)) eighthR) (ix5 0 B h s d) = head x g w j h (B.val * 8192 + s.val) d := by
  rw [layerR_apply]
  show partR (512 * j.val) ho (prodR x g w) (ix4 B h s d) * eighthR (ix4 B h s d) = _
  rw [partR_apply _ _ _ (by omega), prodR_apply, eighthR_apply]
  unfold head scale
  rw [if_pos hj]

theorem headsR_apply (x : FVec Ideal S2x8192x1024 .f32) (g : FVec Ideal S1x1024 .f32) (w : FVec Ideal S1x1024x5120 .f32) (j : Fin 6)
    (B : Fin 2) (h : Fin 8) (s : Fin 8192) (d : Fin 64) :
    headsR x g w (ix5 j B h s d) = head x g w j h (B.val * 8192 + s.val) d := by
  fin_cases j
  · exact (by pointwise [headsR] : headsR x g w (ix5 0 B h s d) = layerR (mulf (partR 0 slices_S2x8192x5120_S2x8192x512_0_0_0 (prodR x g w)) eighthR) (ix5 0 B h s d)).trans
      (scaled_head x g w 0 (by decide) slices_S2x8192x5120_S2x8192x512_0_0_0 B h s d)
  · exact (by pointwise [headsR] : headsR x g w (ix5 1 B h s d) = layerR (partR 512 slices_S2x8192x5120_S2x8192x512_0_0_512 (prodR x g w)) (ix5 0 B h s d)).trans
      (plain_head x g w 1 (by decide) slices_S2x8192x5120_S2x8192x512_0_0_512 B h s d)
  · exact (by pointwise [headsR] : headsR x g w (ix5 2 B h s d) = layerR (partR 1024 slices_S2x8192x5120_S2x8192x512_0_0_1024 (prodR x g w)) (ix5 0 B h s d)).trans
      (plain_head x g w 2 (by decide) slices_S2x8192x5120_S2x8192x512_0_0_1024 B h s d)
  · exact (by pointwise [headsR] : headsR x g w (ix5 3 B h s d) = layerR (mulf (partR 1536 slices_S2x8192x5120_S2x8192x512_0_0_1536 (prodR x g w)) eighthR) (ix5 0 B h s d)).trans
      (scaled_head x g w 3 (by decide) slices_S2x8192x5120_S2x8192x512_0_0_1536 B h s d)
  · exact (by pointwise [headsR] : headsR x g w (ix5 4 B h s d) = layerR (partR 2048 slices_S2x8192x5120_S2x8192x512_0_0_2048 (prodR x g w)) (ix5 0 B h s d)).trans
      (plain_head x g w 4 (by decide) slices_S2x8192x5120_S2x8192x512_0_0_2048 B h s d)
  · exact (by pointwise [headsR] : headsR x g w (ix5 5 B h s d) = layerR (partR 2560 slices_S2x8192x5120_S2x8192x512_0_0_2560 (prodR x g w)) (ix5 0 B h s d)).trans
      (plain_head x g w 5 (by decide) slices_S2x8192x5120_S2x8192x512_0_0_2560 B h s d)

theorem res_eq (m : (ℓ : Loc nD τ sig) → Buf (Elt Ideal) ℓ) (c : Dev nD) : Cert.HeadsReferenceIdeal.Value.res_main_v44 m c
    = headsR (m ((c.tc : Thread nD τ).loc main_arg0)) (m ((c.tc : Thread nD τ).loc main_arg1)) (m ((c.tc : Thread nD τ).loc main_arg2)) := by
  unfold Cert.HeadsReferenceIdeal.Value.res_main_v44
  rfl

end Cert.Proj.HeadsRef

namespace Cert.Proj

open Idealize.ShloMosaic Idealize.ShloMosaic.Pointwise Idealize.SL.Sem

theorem heads_result (x : SX.Idx → EReal) (g : SG.Idx → EReal) (w : SW.Idx → EReal) (x' : SX.Idx → EReal) (g' : SG.Idx → EReal) (w' : SW.Idx → EReal)
    (hx : x' = x) (hg : g' = g) (hw : w' = w) : HeadsRef.headsR x' g' w' = headA x g w := by
  subst hx hg hw
  funext j
  have ej : j = ix5 (j 0) (j 1) (j 2) (j 3) (j 4) := by funext a; fin_cases a <;> rfl
  exact (congrArg (HeadsRef.headsR x' g' w') ej).trans (HeadsRef.headsR_apply x' g' w' (j 0) (j 1) (j 2) (j 3) (j 4))

/-- Over the extended reals, from the same input, weights and matrix, both programs end with the six parts. -/
theorem heads_agree : Cert.algebraic_HeadsIdeal_HeadsReferenceIdeal (hHeadsIdeal := Cert.HeadsIdeal.Gen.facts) (hHeadsReferenceIdeal := Cert.HeadsReferenceIdeal.Gen.facts) :=
  fun m g m' g' _ hargs => ⟨fun c => headA (Heads.xA m c) (Heads.gA m c) (Heads.wA m c),
    (θ_run Cert.HeadsIdeal.defs _ _).mono (fun _ h c => h c) (Heads.run_heads m g),
    (θ_run Cert.HeadsReferenceIdeal.defs _ _).mono (fun _ h c => ⟨((h c).1.trans (HeadsRef.res_eq m' c)).trans (heads_result _ _ _ _ _ _ (hargs c).1 (hargs c).2.1 (hargs c).2.2),
      (h c).2⟩) (Cert.HeadsReferenceIdeal.Value.run m' g')⟩

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.HeadsReferenceIdeal
public import proofs.«01_k».proof.Proof.Gen.HeadsReferenceIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Moba.Frame
public import proofs.«01_k».proof.Proof.Gen.Moba.Skeleton
public import proofs.«01_k».proof.Proof.Gen.Moba.Loops
public import Idealize.ShloMosaic.Lib.LoopRemainder
public import proofs.«01_k».proof.Proof.MB.Launch
public import proofs.«01_k».proof.Proof.SB.Frames
public import proofs.«01_k».proof.Proof.Val.Agree
public import proofs.«01_k».proof.Proof.Proj.GatesRef
public import proofs.«01_k».proof.Proof.Proj.MixRef
public import proofs.«01_k».proof.Proof.Proj.HeadsRef
public import Idealize.ShloMosaic.Adequacy
public import Idealize.ShloMosaic.Init

@[expose] public section

noncomputable section

namespace Cert.Proof

open Idealize.ShloMosaic Idealize.SL.Sem Cert.Kernel

theorem frame_heads_text : Cert.quiescent_HeadsReferenceIdeal := fun m ρ _ =>
  (θ_run Cert.HeadsReferenceIdeal.defs _ _).mono
    (fun r h => ⟨fun c => (h c).2, sem_eq_zero_of_no_sems (by decide) r.2⟩) (Cert.HeadsReferenceIdeal.Value.run m ρ)

theorem frame_gates_text : Cert.quiescent_GatesReferenceIdeal := fun m ρ _ =>
  (θ_run Cert.GatesReferenceIdeal.defs _ _).mono
    (fun r h => ⟨fun c => (h c).2, sem_eq_zero_of_no_sems (by decide) r.2⟩) (Cert.GatesReferenceIdeal.Value.run m ρ)

theorem frame_mix_text : Cert.quiescent_MixReferenceIdeal := fun m ρ _ =>
  (θ_run Cert.MixReferenceIdeal.defs _ _).mono
    (fun r h => ⟨fun c => (h c).2.2.2, sem_eq_zero_of_no_sems (by decide) r.2⟩) (Cert.MixReferenceIdeal.Value.run m ρ)

theorem claim : Cert.Claim := ⟨Cert.Kernel.Gen.facts, Cert.KernelIdeal.Gen.facts, Cert.ReferenceIdeal.Gen.facts, Cert.Heads.Gen.facts, Cert.HeadsIdeal.Gen.facts, Cert.HeadsReferenceIdeal.Gen.facts, Cert.Gates.Gen.facts, Cert.GatesIdeal.Gen.facts, Cert.GatesReferenceIdeal.Gen.facts, Cert.Mix.Gen.facts, Cert.MixIdeal.Gen.facts, Cert.MixReferenceIdeal.Gen.facts, Cert.Moba.Gen.facts,
  Cert.SB.frame_kernel, Cert.SB.frame_ideal, Cert.SB.frame_reference,
  fun m ρ _ => Cert.Heads.Gen.frame m ρ, fun m ρ _ => Cert.HeadsIdeal.Gen.frame m ρ, frame_heads_text,
  fun m ρ _ => Cert.Gates.Gen.frame m ρ, fun m ρ _ => Cert.GatesIdeal.Gen.frame m ρ, frame_gates_text,
  fun m ρ _ => Cert.Mix.Gen.frame m ρ, fun m ρ _ => Cert.MixIdeal.Gen.frame m ρ, frame_mix_text, fun m ρ _ => Cert.Moba.MB.frame (F := Bits) m ρ,
  trivial, Cert.Val.agree, trivial, Cert.Proj.heads_agree, trivial, Cert.Proj.gates_agree, trivial, Cert.Proj.mix_agree⟩

end Cert.Proof

end
